-- ==== Defs.lean ====
def Pre_KernelSwiglu (m : (ℓ : Loc Cert.KernelSwiglu.nD Cert.KernelSwiglu.τ Cert.KernelSwiglu.sig) → Buf (Elt Bits) ℓ) : Prop :=
  True

def Pre_KernelSwigluIdeal (m : (ℓ : Loc Cert.KernelSwigluIdeal.nD Cert.KernelSwigluIdeal.τ Cert.KernelSwigluIdeal.sig) → Buf (Elt Ideal) ℓ) : Prop :=
  True

def Pre_KernelSwigluIdeal_finite_swiglu [hPre_finite_swiglu : Cert.Pre_finite_swiglu.Facts] (m : (ℓ : Loc Cert.KernelSwigluIdeal.nD Cert.KernelSwigluIdeal.τ Cert.KernelSwigluIdeal.sig) → Buf (Elt Ideal) ℓ) : Prop :=
  ∀ c : Dev Cert.KernelSwigluIdeal.nD,
    (Cert.Pre_finite_swiglu.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2))).1 = (fun _ => 1#1)
    ∧ (Cert.Pre_finite_swiglu.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2))).2.1 = (fun _ => 1#1)
    ∧ (Cert.Pre_finite_swiglu.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2))).2.2 = (fun _ => 1#1)

def Pre_ReferenceSwigluIdeal (m : (ℓ : Loc Cert.ReferenceSwigluIdeal.nD Cert.ReferenceSwigluIdeal.τ Cert.ReferenceSwigluIdeal.sig) → Buf (Elt Ideal) ℓ) : Prop :=
  True

def Pre_ReferenceSwigluIdeal_finite_swiglu [hPre_finite_swiglu : Cert.Pre_finite_swiglu.Facts] (m : (ℓ : Loc Cert.ReferenceSwigluIdeal.nD Cert.ReferenceSwigluIdeal.τ Cert.ReferenceSwigluIdeal.sig) → Buf (Elt Ideal) ℓ) : Prop :=
  ∀ c : Dev Cert.ReferenceSwigluIdeal.nD,
    (Cert.Pre_finite_swiglu.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2))).1 = (fun _ => 1#1)
    ∧ (Cert.Pre_finite_swiglu.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2))).2.1 = (fun _ => 1#1)
    ∧ (Cert.Pre_finite_swiglu.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2))).2.2 = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelXbc (m : (ℓ : Loc Cert.KernelXbc.nD Cert.KernelXbc.τ Cert.KernelXbc.sig) → Buf (Elt Bits) ℓ) : Prop :=
  True

def Pre_KernelXbcIdeal (m : (ℓ : Loc Cert.KernelXbcIdeal.nD Cert.KernelXbcIdeal.τ Cert.KernelXbcIdeal.sig) → Buf (Elt Ideal) ℓ) : Prop :=
  True

def Pre_ReferenceXbcIdeal (m : (ℓ : Loc Cert.ReferenceXbcIdeal.nD Cert.ReferenceXbcIdeal.τ Cert.ReferenceXbcIdeal.sig) → Buf (Elt Ideal) ℓ) : Prop :=
  True

def Pre_KernelDt (m : (ℓ : Loc Cert.KernelDt.nD Cert.KernelDt.τ Cert.KernelDt.sig) → Buf (Elt Bits) ℓ) : Prop :=
  True

def Pre_KernelDtIdeal (m : (ℓ : Loc Cert.KernelDtIdeal.nD Cert.KernelDtIdeal.τ Cert.KernelDtIdeal.sig) → Buf (Elt Ideal) ℓ) : Prop :=
  True

def Pre_ReferenceDtIdeal (m : (ℓ : Loc Cert.ReferenceDtIdeal.nD Cert.ReferenceDtIdeal.τ Cert.ReferenceDtIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelXaQ (m : (ℓ : Loc Cert.KernelXaQ.nD Cert.KernelXaQ.τ Cert.KernelXaQ.sig) → Buf (Elt Bits) ℓ) : Prop :=
  True

def Pre_KernelXaQIdeal (m : (ℓ : Loc Cert.KernelXaQIdeal.nD Cert.KernelXaQIdeal.τ Cert.KernelXaQIdeal.sig) → Buf (Elt Ideal) ℓ) : Prop :=
  True

def Pre_ReferenceXaQIdeal (m : (ℓ : Loc Cert.ReferenceXaQIdeal.nD Cert.ReferenceXaQIdeal.τ Cert.ReferenceXaQIdeal.sig) → Buf (Elt Ideal) ℓ) : Prop :=
  True

def Pre_KernelXaKv (m : (ℓ : Loc Cert.KernelXaKv.nD Cert.KernelXaKv.τ Cert.KernelXaKv.sig) → Buf (Elt Bits) ℓ) : Prop :=
  True

def Pre_KernelXaKvIdeal (m : (ℓ : Loc Cert.KernelXaKvIdeal.nD Cert.KernelXaKvIdeal.τ Cert.KernelXaKvIdeal.sig) → Buf (Elt Ideal) ℓ) : Prop :=
  True

def Pre_ReferenceXaKvIdeal (m : (ℓ : Loc Cert.ReferenceXaKvIdeal.nD Cert.ReferenceXaKvIdeal.τ Cert.ReferenceXaKvIdeal.sig) → Buf (Elt Ideal) ℓ) : Prop :=
  True

def Pre_KernelNormIn (m : (ℓ : Loc Cert.KernelNormIn.nD Cert.KernelNormIn.τ Cert.KernelNormIn.sig) → Buf (Elt Bits) ℓ) : Prop :=
  True

def Pre_KernelNormInIdeal (m : (ℓ : Loc Cert.KernelNormInIdeal.nD Cert.KernelNormInIdeal.τ Cert.KernelNormInIdeal.sig) → Buf (Elt Ideal) ℓ) : Prop :=
  True

def Pre_ReferenceNormInIdeal (m : (ℓ : Loc Cert.ReferenceNormInIdeal.nD Cert.ReferenceNormInIdeal.τ Cert.ReferenceNormInIdeal.sig) → Buf (Elt Ideal) ℓ) : Prop :=
  True

def Pre_KernelNormMem (m : (ℓ : Loc Cert.KernelNormMem.nD Cert.KernelNormMem.τ Cert.KernelNormMem.sig) → Buf (Elt Bits) ℓ) : Prop :=
  True

def Pre_KernelNormMemIdeal (m : (ℓ : Loc Cert.KernelNormMemIdeal.nD Cert.KernelNormMemIdeal.τ Cert.KernelNormMemIdeal.sig) → Buf (Elt Ideal) ℓ) : Prop :=
  True

def Pre_ReferenceNormMemIdeal (m : (ℓ : Loc Cert.ReferenceNormMemIdeal.nD Cert.ReferenceNormMemIdeal.τ Cert.ReferenceNormMemIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelXattn (m : (ℓ : Loc Cert.KernelXattn.nD Cert.KernelXattn.τ Cert.KernelXattn.sig) → Buf (Elt Bits) ℓ) : Prop :=
  True

def Pre_KernelXattnIdeal (m : (ℓ : Loc Cert.KernelXattnIdeal.nD Cert.KernelXattnIdeal.τ Cert.KernelXattnIdeal.sig) → Buf (Elt Ideal) ℓ) : Prop :=
  True

def Pre_ReferenceXattnIdeal (m : (ℓ : Loc Cert.ReferenceXattnIdeal.nD Cert.ReferenceXattnIdeal.τ Cert.ReferenceXattnIdeal.sig) → Buf (Elt Ideal) ℓ) : Prop :=
  True

def quiescent_KernelSwiglu [hKernelSwiglu : Cert.KernelSwiglu.Facts] : Prop :=
  ∀ (m : (ℓ : Loc Cert.KernelSwiglu.nD Cert.KernelSwiglu.τ Cert.KernelSwiglu.sig) → Buf (Elt Bits) ℓ) (g : Dev Cert.KernelSwiglu.nD → PrngReg), Pre_KernelSwiglu m →
    θ_run (Cert.KernelSwiglu.defs (F := Bits)) (onTc (τ := Cert.KernelSwiglu.τ) (Cert.KernelSwiglu.main (F := Bits))) ⟨m, fun _ => 0, g⟩ (fun r => (∀ c : Dev Cert.KernelSwiglu.nD,
      r.2.mem ((c.tc : Thread Cert.KernelSwiglu.nD Cert.KernelSwiglu.τ).loc Cert.KernelSwiglu.main_arg0) = m ((c.tc : Thread Cert.KernelSwiglu.nD Cert.KernelSwiglu.τ).loc Cert.KernelSwiglu.main_arg0)
      ∧ r.2.mem ((c.tc : Thread Cert.KernelSwiglu.nD Cert.KernelSwiglu.τ).loc Cert.KernelSwiglu.main_arg1) = m ((c.tc : Thread Cert.KernelSwiglu.nD Cert.KernelSwiglu.τ).loc Cert.KernelSwiglu.main_arg1)
      ∧ r.2.mem ((c.tc : Thread Cert.KernelSwiglu.nD Cert.KernelSwiglu.τ).loc Cert.KernelSwiglu.main_arg2) = m ((c.tc : Thread Cert.KernelSwiglu.nD Cert.KernelSwiglu.τ).loc Cert.KernelSwiglu.main_arg2))
      ∧ r.2.sem = fun _ => 0)

def quiescent_KernelSwigluIdeal [hKernelSwigluIdeal : Cert.KernelSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ r.2.sem = fun _ => 0)

def quiescent_KernelSwigluIdeal_pre_finite_swiglu [hKernelSwigluIdeal : Cert.KernelSwigluIdeal.Facts] [hPre_finite_swiglu : Cert.Pre_finite_swiglu.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal_finite_swiglu m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ r.2.sem = fun _ => 0)

def quiescent_ReferenceSwigluIdeal [hReferenceSwigluIdeal : Cert.ReferenceSwigluIdeal.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2))
      ∧ r.2.sem = fun _ => 0)

def quiescent_ReferenceSwigluIdeal_pre_finite_swiglu [hReferenceSwigluIdeal : Cert.ReferenceSwigluIdeal.Facts] [hPre_finite_swiglu : Cert.Pre_finite_swiglu.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal_finite_swiglu m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5)
      ∧ r.2.mem ((c.tc : Thread Cert.KernelGate.nD Cert.KernelGate.τ).loc Cert.KernelGate.main_arg6) = m ((c.tc : Thread Cert.KernelGate.nD Cert.KernelGate.τ).loc Cert.KernelGate.main_arg6)
      ∧ r.2.mem ((c.tc : Thread Cert.KernelGate.nD Cert.KernelGate.τ).loc Cert.KernelGate.main_arg7) = m ((c.tc : Thread Cert.KernelGate.nD Cert.KernelGate.τ).loc Cert.KernelGate.main_arg7)
      ∧ r.2.mem ((c.tc : Thread Cert.KernelGate.nD Cert.KernelGate.τ).loc Cert.KernelGate.main_arg8) = m ((c.tc : Thread Cert.KernelGate.nD Cert.KernelGate.τ).loc Cert.KernelGate.main_arg8)
      ∧ r.2.mem ((c.tc : Thread Cert.KernelGate.nD Cert.KernelGate.τ).loc Cert.KernelGate.main_arg9) = m ((c.tc : Thread Cert.KernelGate.nD Cert.KernelGate.τ).loc Cert.KernelGate.main_arg9)
      ∧ r.2.mem ((c.tc : Thread Cert.KernelGate.nD Cert.KernelGate.τ).loc Cert.KernelGate.main_arg10) = m ((c.tc : Thread Cert.KernelGate.nD Cert.KernelGate.τ).loc Cert.KernelGate.main_arg10))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
      ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6)
      ∧ r.2.mem ((c.tc : Thread Cert.KernelGateIdeal.nD Cert.KernelGateIdeal.τ).loc Cert.KernelGateIdeal.main_arg7) = m ((c.tc : Thread Cert.KernelGateIdeal.nD Cert.KernelGateIdeal.τ).loc Cert.KernelGateIdeal.main_arg7)
      ∧ r.2.mem ((c.tc : Thread Cert.KernelGateIdeal.nD Cert.KernelGateIdeal.τ).loc Cert.KernelGateIdeal.main_arg8) = m ((c.tc : Thread Cert.KernelGateIdeal.nD Cert.KernelGateIdeal.τ).loc Cert.KernelGateIdeal.main_arg8)
      ∧ r.2.mem ((c.tc : Thread Cert.KernelGateIdeal.nD Cert.KernelGateIdeal.τ).loc Cert.KernelGateIdeal.main_arg9) = m ((c.tc : Thread Cert.KernelGateIdeal.nD Cert.KernelGateIdeal.τ).loc Cert.KernelGateIdeal.main_arg9)
      ∧ r.2.mem ((c.tc : Thread Cert.KernelGateIdeal.nD Cert.KernelGateIdeal.τ).loc Cert.KernelGateIdeal.main_arg10) = m ((c.tc : Thread Cert.KernelGateIdeal.nD Cert.KernelGateIdeal.τ).loc Cert.KernelGateIdeal.main_arg10))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5)
      ∧ r.2.mem ((c.tc : Thread Cert.ReferenceGateIdeal.nD Cert.ReferenceGateIdeal.τ).loc Cert.ReferenceGateIdeal.main_arg6) = m ((c.tc : Thread Cert.ReferenceGateIdeal.nD Cert.ReferenceGateIdeal.τ).loc Cert.ReferenceGateIdeal.main_arg6)
      ∧ r.2.mem ((c.tc : Thread Cert.ReferenceGateIdeal.nD Cert.ReferenceGateIdeal.τ).loc Cert.ReferenceGateIdeal.main_arg7) = m ((c.tc : Thread Cert.ReferenceGateIdeal.nD Cert.ReferenceGateIdeal.τ).loc Cert.ReferenceGateIdeal.main_arg7)
      ∧ r.2.mem ((c.tc : Thread Cert.ReferenceGateIdeal.nD Cert.ReferenceGateIdeal.τ).loc Cert.ReferenceGateIdeal.main_arg8) = m ((c.tc : Thread Cert.ReferenceGateIdeal.nD Cert.ReferenceGateIdeal.τ).loc Cert.ReferenceGateIdeal.main_arg8)
      ∧ r.2.mem ((c.tc : Thread Cert.ReferenceGateIdeal.nD Cert.ReferenceGateIdeal.τ).loc Cert.ReferenceGateIdeal.main_arg9) = m ((c.tc : Thread Cert.ReferenceGateIdeal.nD Cert.ReferenceGateIdeal.τ).loc Cert.ReferenceGateIdeal.main_arg9)
      ∧ r.2.mem ((c.tc : Thread Cert.ReferenceGateIdeal.nD Cert.ReferenceGateIdeal.τ).loc Cert.ReferenceGateIdeal.main_arg10) = m ((c.tc : Thread Cert.ReferenceGateIdeal.nD Cert.ReferenceGateIdeal.τ).loc Cert.ReferenceGateIdeal.main_arg10))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelXbc [hKernelXbc : Cert.KernelXbc.Facts] : Prop :=
  ∀ (m : (ℓ : Loc Cert.KernelXbc.nD Cert.KernelXbc.τ Cert.KernelXbc.sig) → Buf (Elt Bits) ℓ) (g : Dev Cert.KernelXbc.nD → PrngReg), Pre_KernelXbc m →
    θ_run (Cert.KernelXbc.defs (F := Bits)) (onTc (τ := Cert.KernelXbc.τ) (Cert.KernelXbc.main (F := Bits))) ⟨m, fun _ => 0, g⟩ (fun r => (∀ c : Dev Cert.KernelXbc.nD,
      r.2.mem ((c.tc : Thread Cert.KernelXbc.nD Cert.KernelXbc.τ).loc Cert.KernelXbc.main_arg0) = m ((c.tc : Thread Cert.KernelXbc.nD Cert.KernelXbc.τ).loc Cert.KernelXbc.main_arg0)
      ∧ r.2.mem ((c.tc : Thread Cert.KernelXbc.nD Cert.KernelXbc.τ).loc Cert.KernelXbc.main_arg1) = m ((c.tc : Thread Cert.KernelXbc.nD Cert.KernelXbc.τ).loc Cert.KernelXbc.main_arg1))
      ∧ r.2.sem = fun _ => 0)

def quiescent_KernelXbcIdeal [hKernelXbcIdeal : Cert.KernelXbcIdeal.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg), Pre_KernelXbcIdeal m →
    θ_run (Cert.KernelXbcIdeal.defs (F := Ideal)) (onTc (τ := Cert.KernelXbcIdeal.τ) (Cert.KernelXbcIdeal.main (F := Ideal))) ⟨m, fun _ => 0, g⟩ (fun r => (∀ c : Dev Cert.KernelXbcIdeal.nD,
      r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
      ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1))
      ∧ r.2.sem = fun _ => 0)

def quiescent_ReferenceXbcIdeal [hReferenceXbcIdeal : Cert.ReferenceXbcIdeal.Facts] : Prop :=
  ∀ (m : (ℓ : Loc Cert.ReferenceXbcIdeal.nD Cert.ReferenceXbcIdeal.τ Cert.ReferenceXbcIdeal.sig) → Buf (Elt Ideal) ℓ) (g : Dev Cert.ReferenceXbcIdeal.nD → PrngReg), Pre_ReferenceXbcIdeal m →
    θ_run (Cert.ReferenceXbcIdeal.defs (F := Ideal)) (onTc (τ := Cert.ReferenceXbcIdeal.τ) (Cert.ReferenceXbcIdeal.main (F := Ideal))) ⟨m, fun _ => 0, g⟩ (fun r => (∀ c : Dev Cert.ReferenceXbcIdeal.nD,
      r.2.mem ((c.tc : Thread Cert.ReferenceXbcIdeal.nD Cert.ReferenceXbcIdeal.τ).loc Cert.ReferenceXbcIdeal.main_arg0) = m ((c.tc : Thread Cert.ReferenceXbcIdeal.nD Cert.ReferenceXbcIdeal.τ).loc Cert.ReferenceXbcIdeal.main_arg0)
      ∧ r.2.mem ((c.tc : Thread Cert.ReferenceXbcIdeal.nD Cert.ReferenceXbcIdeal.τ).loc Cert.ReferenceXbcIdeal.main_arg1) = m ((c.tc : Thread Cert.ReferenceXbcIdeal.nD Cert.ReferenceXbcIdeal.τ).loc Cert.ReferenceXbcIdeal.main_arg1))
      ∧ r.2.sem = fun _ => 0)

def quiescent_KernelDt [hKernelDt : Cert.KernelDt.Facts] : Prop :=
  ∀ (m : (ℓ : Loc Cert.KernelDt.nD Cert.KernelDt.τ Cert.KernelDt.sig) → Buf (Elt Bits) ℓ) (g : Dev Cert.KernelDt.nD → PrngReg), Pre_KernelDt m →
    θ_run (Cert.KernelDt.defs (F := Bits)) (onTc (τ := Cert.KernelDt.τ) (Cert.KernelDt.main (F := Bits))) ⟨m, fun _ => 0, g⟩ (fun r => (∀ c : Dev Cert.KernelDt.nD,
      r.2.mem ((c.tc : Thread Cert.KernelDt.nD Cert.KernelDt.τ).loc Cert.KernelDt.main_arg0) = m ((c.tc : Thread Cert.KernelDt.nD Cert.KernelDt.τ).loc Cert.KernelDt.main_arg0)
      ∧ r.2.mem ((c.tc : Thread Cert.KernelDt.nD Cert.KernelDt.τ).loc Cert.KernelDt.main_arg1) = m ((c.tc : Thread Cert.KernelDt.nD Cert.KernelDt.τ).loc Cert.KernelDt.main_arg1))
      ∧ r.2.sem = fun _ => 0)

def quiescent_KernelDtIdeal [hKernelDtIdeal : Cert.KernelDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg), Pre_KernelDtIdeal m →
    θ_run (Cert.KernelDtIdeal.defs (F := Ideal)) (onTc (τ := Cert.KernelDtIdeal.τ) (Cert.KernelDtIdeal.main (F := Ideal))) ⟨m, fun _ => 0, g⟩ (fun r => (∀ c : Dev Cert.KernelDtIdeal.nD,
      r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
      ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1))
      ∧ r.2.sem = fun _ => 0)

def quiescent_ReferenceDtIdeal [hReferenceDtIdeal : Cert.ReferenceDtIdeal.Facts] : Prop :=
  ∀ (m : (ℓ : Loc Cert.ReferenceDtIdeal.nD Cert.ReferenceDtIdeal.τ Cert.ReferenceDtIdeal.sig) → Buf (Elt Ideal) ℓ) (g : Dev Cert.ReferenceDtIdeal.nD → PrngReg), Pre_ReferenceDtIdeal m →
    θ_run (Cert.ReferenceDtIdeal.defs (F := Ideal)) (onTc (τ := Cert.ReferenceDtIdeal.τ) (Cert.ReferenceDtIdeal.main (F := Ideal))) ⟨m, fun _ => 0, g⟩ (fun r => (∀ c : Dev Cert.ReferenceDtIdeal.nD,
      r.2.mem ((c.tc : Thread Cert.ReferenceDtIdeal.nD Cert.ReferenceDtIdeal.τ).loc Cert.ReferenceDtIdeal.main_arg0) = m ((c.tc : Thread Cert.ReferenceDtIdeal.nD Cert.ReferenceDtIdeal.τ).loc Cert.ReferenceDtIdeal.main_arg0)
      ∧ r.2.mem ((c.tc : Thread Cert.ReferenceDtIdeal.nD Cert.ReferenceDtIdeal.τ).loc Cert.ReferenceDtIdeal.main_arg1) = m ((c.tc : Thread Cert.ReferenceDtIdeal.nD Cert.ReferenceDtIdeal.τ).loc Cert.ReferenceDtIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelXaQ [hKernelXaQ : Cert.KernelXaQ.Facts] : Prop :=
  ∀ (m : (ℓ : Loc Cert.KernelXaQ.nD Cert.KernelXaQ.τ Cert.KernelXaQ.sig) → Buf (Elt Bits) ℓ) (g : Dev Cert.KernelXaQ.nD → PrngReg), Pre_KernelXaQ m →
    θ_run (Cert.KernelXaQ.defs (F := Bits)) (onTc (τ := Cert.KernelXaQ.τ) (Cert.KernelXaQ.main (F := Bits))) ⟨m, fun _ => 0, g⟩ (fun r => (∀ c : Dev Cert.KernelXaQ.nD,
      r.2.mem ((c.tc : Thread Cert.KernelXaQ.nD Cert.KernelXaQ.τ).loc Cert.KernelXaQ.main_arg0) = m ((c.tc : Thread Cert.KernelXaQ.nD Cert.KernelXaQ.τ).loc Cert.KernelXaQ.main_arg0)
      ∧ r.2.mem ((c.tc : Thread Cert.KernelXaQ.nD Cert.KernelXaQ.τ).loc Cert.KernelXaQ.main_arg1) = m ((c.tc : Thread Cert.KernelXaQ.nD Cert.KernelXaQ.τ).loc Cert.KernelXaQ.main_arg1)
      ∧ r.2.mem ((c.tc : Thread Cert.KernelXaQ.nD Cert.KernelXaQ.τ).loc Cert.KernelXaQ.main_arg2) = m ((c.tc : Thread Cert.KernelXaQ.nD Cert.KernelXaQ.τ).loc Cert.KernelXaQ.main_arg2))
      ∧ r.2.sem = fun _ => 0)

def quiescent_KernelXaQIdeal [hKernelXaQIdeal : Cert.KernelXaQIdeal.Facts] : Prop :=
  ∀ (m : (ℓ : Loc Cert.KernelXaQIdeal.nD Cert.KernelXaQIdeal.τ Cert.KernelXaQIdeal.sig) → Buf (Elt Ideal) ℓ) (g : Dev Cert.KernelXaQIdeal.nD → PrngReg), Pre_KernelXaQIdeal m →
    θ_run (Cert.KernelXaQIdeal.defs (F := Ideal)) (onTc (τ := Cert.KernelXaQIdeal.τ) (Cert.KernelXaQIdeal.main (F := Ideal))) ⟨m, fun _ => 0, g⟩ (fun r => (∀ c : Dev Cert.KernelXaQIdeal.nD,
      r.2.mem ((c.tc : Thread Cert.KernelXaQIdeal.nD Cert.KernelXaQIdeal.τ).loc Cert.KernelXaQIdeal.main_arg0) = m ((c.tc : Thread Cert.KernelXaQIdeal.nD Cert.KernelXaQIdeal.τ).loc Cert.KernelXaQIdeal.main_arg0)
      ∧ r.2.mem ((c.tc : Thread Cert.KernelXaQIdeal.nD Cert.KernelXaQIdeal.τ).loc Cert.KernelXaQIdeal.main_arg1) = m ((c.tc : Thread Cert.KernelXaQIdeal.nD Cert.KernelXaQIdeal.τ).loc Cert.KernelXaQIdeal.main_arg1)
      ∧ r.2.mem ((c.tc : Thread Cert.KernelXaQIdeal.nD Cert.KernelXaQIdeal.τ).loc Cert.KernelXaQIdeal.main_arg2) = m ((c.tc : Thread Cert.KernelXaQIdeal.nD Cert.KernelXaQIdeal.τ).loc Cert.KernelXaQIdeal.main_arg2))
      ∧ r.2.sem = fun _ => 0)

def quiescent_ReferenceXaQIdeal [hReferenceXaQIdeal : Cert.ReferenceXaQIdeal.Facts] : Prop :=
  ∀ (m : (ℓ : Loc Cert.ReferenceXaQIdeal.nD Cert.ReferenceXaQIdeal.τ Cert.ReferenceXaQIdeal.sig) → Buf (Elt Ideal) ℓ) (g : Dev Cert.ReferenceXaQIdeal.nD → PrngReg), Pre_ReferenceXaQIdeal m →
    θ_run (Cert.ReferenceXaQIdeal.defs (F := Ideal)) (onTc (τ := Cert.ReferenceXaQIdeal.τ) (Cert.ReferenceXaQIdeal.main (F := Ideal))) ⟨m, fun _ => 0, g⟩ (fun r => (∀ c : Dev Cert.ReferenceXaQIdeal.nD,
      r.2.mem ((c.tc : Thread Cert.ReferenceXaQIdeal.nD Cert.ReferenceXaQIdeal.τ).loc Cert.ReferenceXaQIdeal.main_arg0) = m ((c.tc : Thread Cert.ReferenceXaQIdeal.nD Cert.ReferenceXaQIdeal.τ).loc Cert.ReferenceXaQIdeal.main_arg0)
      ∧ r.2.mem ((c.tc : Thread Cert.ReferenceXaQIdeal.nD Cert.ReferenceXaQIdeal.τ).loc Cert.ReferenceXaQIdeal.main_arg1) = m ((c.tc : Thread Cert.ReferenceXaQIdeal.nD Cert.ReferenceXaQIdeal.τ).loc Cert.ReferenceXaQIdeal.main_arg1)
      ∧ r.2.mem ((c.tc : Thread Cert.ReferenceXaQIdeal.nD Cert.ReferenceXaQIdeal.τ).loc Cert.ReferenceXaQIdeal.main_arg2) = m ((c.tc : Thread Cert.ReferenceXaQIdeal.nD Cert.ReferenceXaQIdeal.τ).loc Cert.ReferenceXaQIdeal.main_arg2))
      ∧ r.2.sem = fun _ => 0)

def quiescent_KernelXaKv [hKernelXaKv : Cert.KernelXaKv.Facts] : Prop :=
  ∀ (m : (ℓ : Loc Cert.KernelXaKv.nD Cert.KernelXaKv.τ Cert.KernelXaKv.sig) → Buf (Elt Bits) ℓ) (g : Dev Cert.KernelXaKv.nD → PrngReg), Pre_KernelXaKv m →
    θ_run (Cert.KernelXaKv.defs (F := Bits)) (onTc (τ := Cert.KernelXaKv.τ) (Cert.KernelXaKv.main (F := Bits))) ⟨m, fun _ => 0, g⟩ (fun r => (∀ c : Dev Cert.KernelXaKv.nD,
      r.2.mem ((c.tc : Thread Cert.KernelXaKv.nD Cert.KernelXaKv.τ).loc Cert.KernelXaKv.main_arg0) = m ((c.tc : Thread Cert.KernelXaKv.nD Cert.KernelXaKv.τ).loc Cert.KernelXaKv.main_arg0)
      ∧ r.2.mem ((c.tc : Thread Cert.KernelXaKv.nD Cert.KernelXaKv.τ).loc Cert.KernelXaKv.main_arg1) = m ((c.tc : Thread Cert.KernelXaKv.nD Cert.KernelXaKv.τ).loc Cert.KernelXaKv.main_arg1))
      ∧ r.2.sem = fun _ => 0)

def quiescent_KernelXaKvIdeal [hKernelXaKvIdeal : Cert.KernelXaKvIdeal.Facts] : Prop :=
  ∀ (m : (ℓ : Loc Cert.KernelXaKvIdeal.nD Cert.KernelXaKvIdeal.τ Cert.KernelXaKvIdeal.sig) → Buf (Elt Ideal) ℓ) (g : Dev Cert.KernelXaKvIdeal.nD → PrngReg), Pre_KernelXaKvIdeal m →
    θ_run (Cert.KernelXaKvIdeal.defs (F := Ideal)) (onTc (τ := Cert.KernelXaKvIdeal.τ) (Cert.KernelXaKvIdeal.main (F := Ideal))) ⟨m, fun _ => 0, g⟩ (fun r => (∀ c : Dev Cert.KernelXaKvIdeal.nD,
      r.2.mem ((c.tc : Thread Cert.KernelXaKvIdeal.nD Cert.KernelXaKvIdeal.τ).loc Cert.KernelXaKvIdeal.main_arg0) = m ((c.tc : Thread Cert.KernelXaKvIdeal.nD Cert.KernelXaKvIdeal.τ).loc Cert.KernelXaKvIdeal.main_arg0)
      ∧ r.2.mem ((c.tc : Thread Cert.KernelXaKvIdeal.nD Cert.KernelXaKvIdeal.τ).loc Cert.KernelXaKvIdeal.main_arg1) = m ((c.tc : Thread Cert.KernelXaKvIdeal.nD Cert.KernelXaKvIdeal.τ).loc Cert.KernelXaKvIdeal.main_arg1))
      ∧ r.2.sem = fun _ => 0)

def quiescent_ReferenceXaKvIdeal [hReferenceXaKvIdeal : Cert.ReferenceXaKvIdeal.Facts] : Prop :=
  ∀ (m : (ℓ : Loc Cert.ReferenceXaKvIdeal.nD Cert.ReferenceXaKvIdeal.τ Cert.ReferenceXaKvIdeal.sig) → Buf (Elt Ideal) ℓ) (g : Dev Cert.ReferenceXaKvIdeal.nD → PrngReg), Pre_ReferenceXaKvIdeal m →
    θ_run (Cert.ReferenceXaKvIdeal.defs (F := Ideal)) (onTc (τ := Cert.ReferenceXaKvIdeal.τ) (Cert.ReferenceXaKvIdeal.main (F := Ideal))) ⟨m, fun _ => 0, g⟩ (fun r => (∀ c : Dev Cert.ReferenceXaKvIdeal.nD,
      r.2.mem ((c.tc : Thread Cert.ReferenceXaKvIdeal.nD Cert.ReferenceXaKvIdeal.τ).loc Cert.ReferenceXaKvIdeal.main_arg0) = m ((c.tc : Thread Cert.ReferenceXaKvIdeal.nD Cert.ReferenceXaKvIdeal.τ).loc Cert.ReferenceXaKvIdeal.main_arg0)
      ∧ r.2.mem ((c.tc : Thread Cert.ReferenceXaKvIdeal.nD Cert.ReferenceXaKvIdeal.τ).loc Cert.ReferenceXaKvIdeal.main_arg1) = m ((c.tc : Thread Cert.ReferenceXaKvIdeal.nD Cert.ReferenceXaKvIdeal.τ).loc Cert.ReferenceXaKvIdeal.main_arg1))
      ∧ r.2.sem = fun _ => 0)

def quiescent_KernelNormIn [hKernelNormIn : Cert.KernelNormIn.Facts] : Prop :=
  ∀ (m : (ℓ : Loc Cert.KernelNormIn.nD Cert.KernelNormIn.τ Cert.KernelNormIn.sig) → Buf (Elt Bits) ℓ) (g : Dev Cert.KernelNormIn.nD → PrngReg), Pre_KernelNormIn m →
    θ_run (Cert.KernelNormIn.defs (F := Bits)) (onTc (τ := Cert.KernelNormIn.τ) (Cert.KernelNormIn.main (F := Bits))) ⟨m, fun _ => 0, g⟩ (fun r => (∀ c : Dev Cert.KernelNormIn.nD,
      r.2.mem ((c.tc : Thread Cert.KernelNormIn.nD Cert.KernelNormIn.τ).loc Cert.KernelNormIn.main_arg0) = m ((c.tc : Thread Cert.KernelNormIn.nD Cert.KernelNormIn.τ).loc Cert.KernelNormIn.main_arg0)
      ∧ r.2.mem ((c.tc : Thread Cert.KernelNormIn.nD Cert.KernelNormIn.τ).loc Cert.KernelNormIn.main_arg1) = m ((c.tc : Thread Cert.KernelNormIn.nD Cert.KernelNormIn.τ).loc Cert.KernelNormIn.main_arg1))
      ∧ r.2.sem = fun _ => 0)

def quiescent_KernelNormInIdeal [hKernelNormInIdeal : Cert.KernelNormInIdeal.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg), Pre_KernelNormInIdeal m →
    θ_run (Cert.KernelNormInIdeal.defs (F := Ideal)) (onTc (τ := Cert.KernelNormInIdeal.τ) (Cert.KernelNormInIdeal.main (F := Ideal))) ⟨m, fun _ => 0, g⟩ (fun r => (∀ c : Dev Cert.KernelNormInIdeal.nD,
      r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
      ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1))
      ∧ r.2.sem = fun _ => 0)

def quiescent_ReferenceNormInIdeal [hReferenceNormInIdeal : Cert.ReferenceNormInIdeal.Facts] : Prop :=
  ∀ (m : (ℓ : Loc Cert.ReferenceNormInIdeal.nD Cert.ReferenceNormInIdeal.τ Cert.ReferenceNormInIdeal.sig) → Buf (Elt Ideal) ℓ) (g : Dev Cert.ReferenceNormInIdeal.nD → PrngReg), Pre_ReferenceNormInIdeal m →
    θ_run (Cert.ReferenceNormInIdeal.defs (F := Ideal)) (onTc (τ := Cert.ReferenceNormInIdeal.τ) (Cert.ReferenceNormInIdeal.main (F := Ideal))) ⟨m, fun _ => 0, g⟩ (fun r => (∀ c : Dev Cert.ReferenceNormInIdeal.nD,
      r.2.mem ((c.tc : Thread Cert.ReferenceNormInIdeal.nD Cert.ReferenceNormInIdeal.τ).loc Cert.ReferenceNormInIdeal.main_arg0) = m ((c.tc : Thread Cert.ReferenceNormInIdeal.nD Cert.ReferenceNormInIdeal.τ).loc Cert.ReferenceNormInIdeal.main_arg0)
      ∧ r.2.mem ((c.tc : Thread Cert.ReferenceNormInIdeal.nD Cert.ReferenceNormInIdeal.τ).loc Cert.ReferenceNormInIdeal.main_arg1) = m ((c.tc : Thread Cert.ReferenceNormInIdeal.nD Cert.ReferenceNormInIdeal.τ).loc Cert.ReferenceNormInIdeal.main_arg1))
      ∧ r.2.sem = fun _ => 0)

def quiescent_KernelNormMem [hKernelNormMem : Cert.KernelNormMem.Facts] : Prop :=
  ∀ (m : (ℓ : Loc Cert.KernelNormMem.nD Cert.KernelNormMem.τ Cert.KernelNormMem.sig) → Buf (Elt Bits) ℓ) (g : Dev Cert.KernelNormMem.nD → PrngReg), Pre_KernelNormMem m →
    θ_run (Cert.KernelNormMem.defs (F := Bits)) (onTc (τ := Cert.KernelNormMem.τ) (Cert.KernelNormMem.main (F := Bits))) ⟨m, fun _ => 0, g⟩ (fun r => (∀ c : Dev Cert.KernelNormMem.nD,
      r.2.mem ((c.tc : Thread Cert.KernelNormMem.nD Cert.KernelNormMem.τ).loc Cert.KernelNormMem.main_arg0) = m ((c.tc : Thread Cert.KernelNormMem.nD Cert.KernelNormMem.τ).loc Cert.KernelNormMem.main_arg0)
      ∧ r.2.mem ((c.tc : Thread Cert.KernelNormMem.nD Cert.KernelNormMem.τ).loc Cert.KernelNormMem.main_arg1) = m ((c.tc : Thread Cert.KernelNormMem.nD Cert.KernelNormMem.τ).loc Cert.KernelNormMem.main_arg1))
      ∧ r.2.sem = fun _ => 0)

def quiescent_KernelNormMemIdeal [hKernelNormMemIdeal : Cert.KernelNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg), Pre_KernelNormMemIdeal m →
    θ_run (Cert.KernelNormMemIdeal.defs (F := Ideal)) (onTc (τ := Cert.KernelNormMemIdeal.τ) (Cert.KernelNormMemIdeal.main (F := Ideal))) ⟨m, fun _ => 0, g⟩ (fun r => (∀ c : Dev Cert.KernelNormMemIdeal.nD,
      r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
      ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1))
      ∧ r.2.sem = fun _ => 0)

def quiescent_ReferenceNormMemIdeal [hReferenceNormMemIdeal : Cert.ReferenceNormMemIdeal.Facts] : Prop :=
  ∀ (m : (ℓ : Loc Cert.ReferenceNormMemIdeal.nD Cert.ReferenceNormMemIdeal.τ Cert.ReferenceNormMemIdeal.sig) → Buf (Elt Ideal) ℓ) (g : Dev Cert.ReferenceNormMemIdeal.nD → PrngReg), Pre_ReferenceNormMemIdeal m →
    θ_run (Cert.ReferenceNormMemIdeal.defs (F := Ideal)) (onTc (τ := Cert.ReferenceNormMemIdeal.τ) (Cert.ReferenceNormMemIdeal.main (F := Ideal))) ⟨m, fun _ => 0, g⟩ (fun r => (∀ c : Dev Cert.ReferenceNormMemIdeal.nD,
      r.2.mem ((c.tc : Thread Cert.ReferenceNormMemIdeal.nD Cert.ReferenceNormMemIdeal.τ).loc Cert.ReferenceNormMemIdeal.main_arg0) = m ((c.tc : Thread Cert.ReferenceNormMemIdeal.nD Cert.ReferenceNormMemIdeal.τ).loc Cert.ReferenceNormMemIdeal.main_arg0)
      ∧ r.2.mem ((c.tc : Thread Cert.ReferenceNormMemIdeal.nD Cert.ReferenceNormMemIdeal.τ).loc Cert.ReferenceNormMemIdeal.main_arg1) = m ((c.tc : Thread Cert.ReferenceNormMemIdeal.nD Cert.ReferenceNormMemIdeal.τ).loc Cert.ReferenceNormMemIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelXattn [hKernelXattn : Cert.KernelXattn.Facts] : Prop :=
  ∀ (m : (ℓ : Loc Cert.KernelXattn.nD Cert.KernelXattn.τ Cert.KernelXattn.sig) → Buf (Elt Bits) ℓ) (g : Dev Cert.KernelXattn.nD → PrngReg), Pre_KernelXattn m →
    θ_run (Cert.KernelXattn.defs (F := Bits)) (onTc (τ := Cert.KernelXattn.τ) (Cert.KernelXattn.main (F := Bits))) ⟨m, fun _ => 0, g⟩ (fun r => (∀ c : Dev Cert.KernelXattn.nD,
      r.2.mem ((c.tc : Thread Cert.KernelXattn.nD Cert.KernelXattn.τ).loc Cert.KernelXattn.main_arg0) = m ((c.tc : Thread Cert.KernelXattn.nD Cert.KernelXattn.τ).loc Cert.KernelXattn.main_arg0)
      ∧ r.2.mem ((c.tc : Thread Cert.KernelXattn.nD Cert.KernelXattn.τ).loc Cert.KernelXattn.main_arg1) = m ((c.tc : Thread Cert.KernelXattn.nD Cert.KernelXattn.τ).loc Cert.KernelXattn.main_arg1))
      ∧ r.2.sem = fun _ => 0)

def quiescent_KernelXattnIdeal [hKernelXattnIdeal : Cert.KernelXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg), Pre_KernelXattnIdeal m →
    θ_run (Cert.KernelXattnIdeal.defs (F := Ideal)) (onTc (τ := Cert.KernelXattnIdeal.τ) (Cert.KernelXattnIdeal.main (F := Ideal))) ⟨m, fun _ => 0, g⟩ (fun r => (∀ c : Dev Cert.KernelXattnIdeal.nD,
      r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
      ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1))
      ∧ r.2.sem = fun _ => 0)

def quiescent_ReferenceXattnIdeal [hReferenceXattnIdeal : Cert.ReferenceXattnIdeal.Facts] : Prop :=
  ∀ (m : (ℓ : Loc Cert.ReferenceXattnIdeal.nD Cert.ReferenceXattnIdeal.τ Cert.ReferenceXattnIdeal.sig) → Buf (Elt Ideal) ℓ) (g : Dev Cert.ReferenceXattnIdeal.nD → PrngReg), Pre_ReferenceXattnIdeal m →
    θ_run (Cert.ReferenceXattnIdeal.defs (F := Ideal)) (onTc (τ := Cert.ReferenceXattnIdeal.τ) (Cert.ReferenceXattnIdeal.main (F := Ideal))) ⟨m, fun _ => 0, g⟩ (fun r => (∀ c : Dev Cert.ReferenceXattnIdeal.nD,
      r.2.mem ((c.tc : Thread Cert.ReferenceXattnIdeal.nD Cert.ReferenceXattnIdeal.τ).loc Cert.ReferenceXattnIdeal.main_arg0) = m ((c.tc : Thread Cert.ReferenceXattnIdeal.nD Cert.ReferenceXattnIdeal.τ).loc Cert.ReferenceXattnIdeal.main_arg0)
      ∧ r.2.mem ((c.tc : Thread Cert.ReferenceXattnIdeal.nD Cert.ReferenceXattnIdeal.τ).loc Cert.ReferenceXattnIdeal.main_arg1) = m ((c.tc : Thread Cert.ReferenceXattnIdeal.nD Cert.ReferenceXattnIdeal.τ).loc Cert.ReferenceXattnIdeal.main_arg1))
      ∧ r.2.sem = fun _ => 0)

def preserves_KernelSwiglu_KernelSwigluIdeal : Prop :=
  True

def algebraic_KernelSwigluIdeal_ReferenceSwigluIdeal_pre_finite_swiglu [hKernelSwigluIdeal : Cert.KernelSwigluIdeal.Facts] [hReferenceSwigluIdeal : Cert.ReferenceSwigluIdeal.Facts] [hPre_finite_swiglu : Cert.Pre_finite_swiglu.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg)
    (m' : (ℓ : Loc Cert.ReferenceSwigluIdeal.nD Cert.ReferenceSwigluIdeal.τ Cert.ReferenceSwigluIdeal.sig) → Buf (Elt Ideal) ℓ) (g' : Dev Cert.ReferenceSwigluIdeal.nD → PrngReg), Pre_KernelSwigluIdeal_finite_swiglu m →
    (∀ c : Dev Cert.KernelSwigluIdeal.nD,
      m' ((c.tc : Thread Cert.ReferenceSwigluIdeal.nD Cert.ReferenceSwigluIdeal.τ).loc Cert.ReferenceSwigluIdeal.main_arg0) = m ((c.tc : Thread Cert.KernelSwigluIdeal.nD Cert.KernelSwigluIdeal.τ).loc Cert.KernelSwigluIdeal.main_arg0)
      ∧ m' ((c.tc : Thread Cert.ReferenceSwigluIdeal.nD Cert.ReferenceSwigluIdeal.τ).loc Cert.ReferenceSwigluIdeal.main_arg1) = m ((c.tc : Thread Cert.KernelSwigluIdeal.nD Cert.KernelSwigluIdeal.τ).loc Cert.KernelSwigluIdeal.main_arg1)
      ∧ m' ((c.tc : Thread Cert.ReferenceSwigluIdeal.nD Cert.ReferenceSwigluIdeal.τ).loc Cert.ReferenceSwigluIdeal.main_arg2) = m ((c.tc : Thread Cert.KernelSwigluIdeal.nD Cert.KernelSwigluIdeal.τ).loc Cert.KernelSwigluIdeal.main_arg2)) →
    ∃ (v0 : (c : Dev Cert.KernelSwigluIdeal.nD) → Buf (Elt Ideal) ((c.tc : Thread Cert.KernelSwigluIdeal.nD Cert.KernelSwigluIdeal.τ).loc Cert.KernelSwigluIdeal.main_v7)),
      θ_run (Cert.KernelSwigluIdeal.defs (F := Ideal)) (onTc (τ := Cert.KernelSwigluIdeal.τ) (Cert.KernelSwigluIdeal.main (F := Ideal))) ⟨m, fun _ => 0, g⟩ (fun r => ∀ c : Dev Cert.KernelSwigluIdeal.nD,
          r.2.mem ((c.tc : Thread Cert.KernelSwigluIdeal.nD Cert.KernelSwigluIdeal.τ).loc Cert.KernelSwigluIdeal.main_v7) = v0 c
          ∧ r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
          ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
          ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ θ_run (Cert.ReferenceSwigluIdeal.defs (F := Ideal)) (onTc (τ := Cert.ReferenceSwigluIdeal.τ) (Cert.ReferenceSwigluIdeal.main (F := Ideal))) ⟨m', fun _ => 0, g'⟩ (fun r => ∀ c : Dev Cert.ReferenceSwigluIdeal.nD,
          r.2.mem ((c.tc : Thread Cert.ReferenceSwigluIdeal.nD Cert.ReferenceSwigluIdeal.τ).loc Cert.ReferenceSwigluIdeal.main_v18) = v0 c
          ∧ r.2.mem ((c.tc : Thread Cert.ReferenceSwigluIdeal.nD Cert.ReferenceSwigluIdeal.τ).loc Cert.ReferenceSwigluIdeal.main_arg0) = m' ((c.tc : Thread Cert.ReferenceSwigluIdeal.nD Cert.ReferenceSwigluIdeal.τ).loc Cert.ReferenceSwigluIdeal.main_arg0)
          ∧ r.2.mem ((c.tc : Thread Cert.ReferenceSwigluIdeal.nD Cert.ReferenceSwigluIdeal.τ).loc Cert.ReferenceSwigluIdeal.main_arg1) = m' ((c.tc : Thread Cert.ReferenceSwigluIdeal.nD Cert.ReferenceSwigluIdeal.τ).loc Cert.ReferenceSwigluIdeal.main_arg1)
          ∧ r.2.mem ((c.tc : Thread Cert.ReferenceSwigluIdeal.nD Cert.ReferenceSwigluIdeal.τ).loc Cert.ReferenceSwigluIdeal.main_arg2) = m' ((c.tc : Thread Cert.ReferenceSwigluIdeal.nD Cert.ReferenceSwigluIdeal.τ).loc Cert.ReferenceSwigluIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)
      ∧ m' ((c.tc : Thread Cert.ReferenceGateIdeal.nD Cert.ReferenceGateIdeal.τ).loc Cert.ReferenceGateIdeal.main_arg6) = m ((c.tc : Thread Cert.KernelGateIdeal.nD Cert.KernelGateIdeal.τ).loc Cert.KernelGateIdeal.main_arg6)
      ∧ m' ((c.tc : Thread Cert.ReferenceGateIdeal.nD Cert.ReferenceGateIdeal.τ).loc Cert.ReferenceGateIdeal.main_arg7) = m ((c.tc : Thread Cert.KernelGateIdeal.nD Cert.KernelGateIdeal.τ).loc Cert.KernelGateIdeal.main_arg7)
      ∧ m' ((c.tc : Thread Cert.ReferenceGateIdeal.nD Cert.ReferenceGateIdeal.τ).loc Cert.ReferenceGateIdeal.main_arg8) = m ((c.tc : Thread Cert.KernelGateIdeal.nD Cert.KernelGateIdeal.τ).loc Cert.KernelGateIdeal.main_arg8)
      ∧ m' ((c.tc : Thread Cert.ReferenceGateIdeal.nD Cert.ReferenceGateIdeal.τ).loc Cert.ReferenceGateIdeal.main_arg9) = m ((c.tc : Thread Cert.KernelGateIdeal.nD Cert.KernelGateIdeal.τ).loc Cert.KernelGateIdeal.main_arg9)
      ∧ m' ((c.tc : Thread Cert.ReferenceGateIdeal.nD Cert.ReferenceGateIdeal.τ).loc Cert.ReferenceGateIdeal.main_arg10) = m ((c.tc : Thread Cert.KernelGateIdeal.nD Cert.KernelGateIdeal.τ).loc Cert.KernelGateIdeal.main_arg10)) →
    ∃ (v0 : (c : Dev Cert.KernelGateIdeal.nD) → Buf (Elt Ideal) ((c.tc : Thread Cert.KernelGateIdeal.nD Cert.KernelGateIdeal.τ).loc Cert.KernelGateIdeal.main_v21_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v21_1) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5)
          ∧ r.2.mem ((c.tc : Thread Cert.KernelGateIdeal.nD Cert.KernelGateIdeal.τ).loc Cert.KernelGateIdeal.main_arg6) = m ((c.tc : Thread Cert.KernelGateIdeal.nD Cert.KernelGateIdeal.τ).loc Cert.KernelGateIdeal.main_arg6)
          ∧ r.2.mem ((c.tc : Thread Cert.KernelGateIdeal.nD Cert.KernelGateIdeal.τ).loc Cert.KernelGateIdeal.main_arg7) = m ((c.tc : Thread Cert.KernelGateIdeal.nD Cert.KernelGateIdeal.τ).loc Cert.KernelGateIdeal.main_arg7)
          ∧ r.2.mem ((c.tc : Thread Cert.KernelGateIdeal.nD Cert.KernelGateIdeal.τ).loc Cert.KernelGateIdeal.main_arg8) = m ((c.tc : Thread Cert.KernelGateIdeal.nD Cert.KernelGateIdeal.τ).loc Cert.KernelGateIdeal.main_arg8)
          ∧ r.2.mem ((c.tc : Thread Cert.KernelGateIdeal.nD Cert.KernelGateIdeal.τ).loc Cert.KernelGateIdeal.main_arg9) = m ((c.tc : Thread Cert.KernelGateIdeal.nD Cert.KernelGateIdeal.τ).loc Cert.KernelGateIdeal.main_arg9)
          ∧ r.2.mem ((c.tc : Thread Cert.KernelGateIdeal.nD Cert.KernelGateIdeal.τ).loc Cert.KernelGateIdeal.main_arg10) = m ((c.tc : Thread Cert.KernelGateIdeal.nD Cert.KernelGateIdeal.τ).loc Cert.KernelGateIdeal.main_arg10))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v2) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5)
          ∧ r.2.mem ((c.tc : Thread Cert.ReferenceGateIdeal.nD Cert.ReferenceGateIdeal.τ).loc Cert.ReferenceGateIdeal.main_arg6) = m' ((c.tc : Thread Cert.ReferenceGateIdeal.nD Cert.ReferenceGateIdeal.τ).loc Cert.ReferenceGateIdeal.main_arg6)
          ∧ r.2.mem ((c.tc : Thread Cert.ReferenceGateIdeal.nD Cert.ReferenceGateIdeal.τ).loc Cert.ReferenceGateIdeal.main_arg7) = m' ((c.tc : Thread Cert.ReferenceGateIdeal.nD Cert.ReferenceGateIdeal.τ).loc Cert.ReferenceGateIdeal.main_arg7)
          ∧ r.2.mem ((c.tc : Thread Cert.ReferenceGateIdeal.nD Cert.ReferenceGateIdeal.τ).loc Cert.ReferenceGateIdeal.main_arg8) = m' ((c.tc : Thread Cert.ReferenceGateIdeal.nD Cert.ReferenceGateIdeal.τ).loc Cert.ReferenceGateIdeal.main_arg8)
          ∧ r.2.mem ((c.tc : Thread Cert.ReferenceGateIdeal.nD Cert.ReferenceGateIdeal.τ).loc Cert.ReferenceGateIdeal.main_arg9) = m' ((c.tc : Thread Cert.ReferenceGateIdeal.nD Cert.ReferenceGateIdeal.τ).loc Cert.ReferenceGateIdeal.main_arg9)
          ∧ r.2.mem ((c.tc : Thread Cert.ReferenceGateIdeal.nD Cert.ReferenceGateIdeal.τ).loc Cert.ReferenceGateIdeal.main_arg10) = m' ((c.tc : Thread Cert.ReferenceGateIdeal.nD Cert.ReferenceGateIdeal.τ).loc Cert.ReferenceGateIdeal.main_arg10))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)) →
    ∃ (v0 : (c : Dev Cert.KernelFfnOutIdeal.nD) → Buf (Elt Ideal) ((c.tc : Thread Cert.KernelFfnOutIdeal.nD Cert.KernelFfnOutIdeal.τ).loc Cert.KernelFfnOutIdeal.main_v1)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v1) = v0 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v2) = v0 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v3)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v3) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v3) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v2)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v2) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v2) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelXbc_KernelXbcIdeal : Prop :=
  True

def algebraic_KernelXbcIdeal_ReferenceXbcIdeal [hKernelXbcIdeal : Cert.KernelXbcIdeal.Facts] [hReferenceXbcIdeal : Cert.ReferenceXbcIdeal.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg)
    (m' : (ℓ : Loc Cert.ReferenceXbcIdeal.nD Cert.ReferenceXbcIdeal.τ Cert.ReferenceXbcIdeal.sig) → Buf (Elt Ideal) ℓ) (g' : Dev Cert.ReferenceXbcIdeal.nD → PrngReg), Pre_KernelXbcIdeal m →
    (∀ c : Dev Cert.KernelXbcIdeal.nD,
      m' ((c.tc : Thread Cert.ReferenceXbcIdeal.nD Cert.ReferenceXbcIdeal.τ).loc Cert.ReferenceXbcIdeal.main_arg0) = m ((c.tc : Thread Cert.KernelXbcIdeal.nD Cert.KernelXbcIdeal.τ).loc Cert.KernelXbcIdeal.main_arg0)
      ∧ m' ((c.tc : Thread Cert.ReferenceXbcIdeal.nD Cert.ReferenceXbcIdeal.τ).loc Cert.ReferenceXbcIdeal.main_arg1) = m ((c.tc : Thread Cert.KernelXbcIdeal.nD Cert.KernelXbcIdeal.τ).loc Cert.KernelXbcIdeal.main_arg1)) →
    ∃ (v0 : (c : Dev Cert.KernelXbcIdeal.nD) → Buf (Elt Ideal) ((c.tc : Thread Cert.KernelXbcIdeal.nD Cert.KernelXbcIdeal.τ).loc Cert.KernelXbcIdeal.main_v2)),
      θ_run (Cert.KernelXbcIdeal.defs (F := Ideal)) (onTc (τ := Cert.KernelXbcIdeal.τ) (Cert.KernelXbcIdeal.main (F := Ideal))) ⟨m, fun _ => 0, g⟩ (fun r => ∀ c : Dev Cert.KernelXbcIdeal.nD,
          r.2.mem ((c.tc : Thread Cert.KernelXbcIdeal.nD Cert.KernelXbcIdeal.τ).loc Cert.KernelXbcIdeal.main_v2) = v0 c
          ∧ r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
          ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1))
      ∧ θ_run (Cert.ReferenceXbcIdeal.defs (F := Ideal)) (onTc (τ := Cert.ReferenceXbcIdeal.τ) (Cert.ReferenceXbcIdeal.main (F := Ideal))) ⟨m', fun _ => 0, g'⟩ (fun r => ∀ c : Dev Cert.ReferenceXbcIdeal.nD,
          r.2.mem ((c.tc : Thread Cert.ReferenceXbcIdeal.nD Cert.ReferenceXbcIdeal.τ).loc Cert.ReferenceXbcIdeal.main_v2) = v0 c
          ∧ r.2.mem ((c.tc : Thread Cert.ReferenceXbcIdeal.nD Cert.ReferenceXbcIdeal.τ).loc Cert.ReferenceXbcIdeal.main_arg0) = m' ((c.tc : Thread Cert.ReferenceXbcIdeal.nD Cert.ReferenceXbcIdeal.τ).loc Cert.ReferenceXbcIdeal.main_arg0)
          ∧ r.2.mem ((c.tc : Thread Cert.ReferenceXbcIdeal.nD Cert.ReferenceXbcIdeal.τ).loc Cert.ReferenceXbcIdeal.main_arg1) = m' ((c.tc : Thread Cert.ReferenceXbcIdeal.nD Cert.ReferenceXbcIdeal.τ).loc Cert.ReferenceXbcIdeal.main_arg1))

def preserves_KernelDt_KernelDtIdeal : Prop :=
  True

def algebraic_KernelDtIdeal_ReferenceDtIdeal [hKernelDtIdeal : Cert.KernelDtIdeal.Facts] [hReferenceDtIdeal : Cert.ReferenceDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg)
    (m' : (ℓ : Loc Cert.ReferenceDtIdeal.nD Cert.ReferenceDtIdeal.τ Cert.ReferenceDtIdeal.sig) → Buf (Elt Ideal) ℓ) (g' : Dev Cert.ReferenceDtIdeal.nD → PrngReg), Pre_KernelDtIdeal m →
    (∀ c : Dev Cert.KernelDtIdeal.nD,
      m' ((c.tc : Thread Cert.ReferenceDtIdeal.nD Cert.ReferenceDtIdeal.τ).loc Cert.ReferenceDtIdeal.main_arg0) = m ((c.tc : Thread Cert.KernelDtIdeal.nD Cert.KernelDtIdeal.τ).loc Cert.KernelDtIdeal.main_arg0)
      ∧ m' ((c.tc : Thread Cert.ReferenceDtIdeal.nD Cert.ReferenceDtIdeal.τ).loc Cert.ReferenceDtIdeal.main_arg1) = m ((c.tc : Thread Cert.KernelDtIdeal.nD Cert.KernelDtIdeal.τ).loc Cert.KernelDtIdeal.main_arg1)) →
    ∃ (v0 : (c : Dev Cert.KernelDtIdeal.nD) → Buf (Elt Ideal) ((c.tc : Thread Cert.KernelDtIdeal.nD Cert.KernelDtIdeal.τ).loc Cert.KernelDtIdeal.main_v2)),
      θ_run (Cert.KernelDtIdeal.defs (F := Ideal)) (onTc (τ := Cert.KernelDtIdeal.τ) (Cert.KernelDtIdeal.main (F := Ideal))) ⟨m, fun _ => 0, g⟩ (fun r => ∀ c : Dev Cert.KernelDtIdeal.nD,
          r.2.mem ((c.tc : Thread Cert.KernelDtIdeal.nD Cert.KernelDtIdeal.τ).loc Cert.KernelDtIdeal.main_v2) = v0 c
          ∧ r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
          ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1))
      ∧ θ_run (Cert.ReferenceDtIdeal.defs (F := Ideal)) (onTc (τ := Cert.ReferenceDtIdeal.τ) (Cert.ReferenceDtIdeal.main (F := Ideal))) ⟨m', fun _ => 0, g'⟩ (fun r => ∀ c : Dev Cert.ReferenceDtIdeal.nD,
          r.2.mem ((c.tc : Thread Cert.ReferenceDtIdeal.nD Cert.ReferenceDtIdeal.τ).loc Cert.ReferenceDtIdeal.main_v2) = v0 c
          ∧ r.2.mem ((c.tc : Thread Cert.ReferenceDtIdeal.nD Cert.ReferenceDtIdeal.τ).loc Cert.ReferenceDtIdeal.main_arg0) = m' ((c.tc : Thread Cert.ReferenceDtIdeal.nD Cert.ReferenceDtIdeal.τ).loc Cert.ReferenceDtIdeal.main_arg0)
          ∧ r.2.mem ((c.tc : Thread Cert.ReferenceDtIdeal.nD Cert.ReferenceDtIdeal.τ).loc Cert.ReferenceDtIdeal.main_arg1) = m' ((c.tc : Thread Cert.ReferenceDtIdeal.nD Cert.ReferenceDtIdeal.τ).loc Cert.ReferenceDtIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v3)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v3) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v18) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1_0)) (v1 : (c : Dev Cert.KernelOutIdeal.nD) → Buf (Elt Ideal) ((c.tc : Thread Cert.KernelOutIdeal.nD Cert.KernelOutIdeal.τ).loc Cert.KernelOutIdeal.main_v1_1)) (v2 : (c : Dev Cert.KernelOutIdeal.nD) → Buf (Elt Ideal) ((c.tc : Thread Cert.KernelOutIdeal.nD Cert.KernelOutIdeal.τ).loc Cert.KernelOutIdeal.main_v1_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1_0) = v0 c
          ∧ r.2.mem ((c.tc : Thread Cert.KernelOutIdeal.nD Cert.KernelOutIdeal.τ).loc Cert.KernelOutIdeal.main_v1_1) = v1 c
          ∧ r.2.mem ((c.tc : Thread Cert.KernelOutIdeal.nD Cert.KernelOutIdeal.τ).loc Cert.KernelOutIdeal.main_v1_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_v7) = v1 c
          ∧ r.2.mem ((c.tc : Thread Cert.ReferenceOutIdeal.nD Cert.ReferenceOutIdeal.τ).loc Cert.ReferenceOutIdeal.main_v6) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelXaQ_KernelXaQIdeal : Prop :=
  True

def algebraic_KernelXaQIdeal_ReferenceXaQIdeal [hKernelXaQIdeal : Cert.KernelXaQIdeal.Facts] [hReferenceXaQIdeal : Cert.ReferenceXaQIdeal.Facts] : Prop :=
  ∀ (m : (ℓ : Loc Cert.KernelXaQIdeal.nD Cert.KernelXaQIdeal.τ Cert.KernelXaQIdeal.sig) → Buf (Elt Ideal) ℓ) (g : Dev Cert.KernelXaQIdeal.nD → PrngReg)
    (m' : (ℓ : Loc Cert.ReferenceXaQIdeal.nD Cert.ReferenceXaQIdeal.τ Cert.ReferenceXaQIdeal.sig) → Buf (Elt Ideal) ℓ) (g' : Dev Cert.ReferenceXaQIdeal.nD → PrngReg), Pre_KernelXaQIdeal m →
    (∀ c : Dev Cert.KernelXaQIdeal.nD,
      m' ((c.tc : Thread Cert.ReferenceXaQIdeal.nD Cert.ReferenceXaQIdeal.τ).loc Cert.ReferenceXaQIdeal.main_arg0) = m ((c.tc : Thread Cert.KernelXaQIdeal.nD Cert.KernelXaQIdeal.τ).loc Cert.KernelXaQIdeal.main_arg0)
      ∧ m' ((c.tc : Thread Cert.ReferenceXaQIdeal.nD Cert.ReferenceXaQIdeal.τ).loc Cert.ReferenceXaQIdeal.main_arg1) = m ((c.tc : Thread Cert.KernelXaQIdeal.nD Cert.KernelXaQIdeal.τ).loc Cert.KernelXaQIdeal.main_arg1)
      ∧ m' ((c.tc : Thread Cert.ReferenceXaQIdeal.nD Cert.ReferenceXaQIdeal.τ).loc Cert.ReferenceXaQIdeal.main_arg2) = m ((c.tc : Thread Cert.KernelXaQIdeal.nD Cert.KernelXaQIdeal.τ).loc Cert.KernelXaQIdeal.main_arg2)) →
    ∃ (v0 : (c : Dev Cert.KernelXaQIdeal.nD) → Buf (Elt Ideal) ((c.tc : Thread Cert.KernelXaQIdeal.nD Cert.KernelXaQIdeal.τ).loc Cert.KernelXaQIdeal.main_v7)),
      θ_run (Cert.KernelXaQIdeal.defs (F := Ideal)) (onTc (τ := Cert.KernelXaQIdeal.τ) (Cert.KernelXaQIdeal.main (F := Ideal))) ⟨m, fun _ => 0, g⟩ (fun r => ∀ c : Dev Cert.KernelXaQIdeal.nD,
          r.2.mem ((c.tc : Thread Cert.KernelXaQIdeal.nD Cert.KernelXaQIdeal.τ).loc Cert.KernelXaQIdeal.main_v7) = v0 c
          ∧ r.2.mem ((c.tc : Thread Cert.KernelXaQIdeal.nD Cert.KernelXaQIdeal.τ).loc Cert.KernelXaQIdeal.main_arg0) = m ((c.tc : Thread Cert.KernelXaQIdeal.nD Cert.KernelXaQIdeal.τ).loc Cert.KernelXaQIdeal.main_arg0)
          ∧ r.2.mem ((c.tc : Thread Cert.KernelXaQIdeal.nD Cert.KernelXaQIdeal.τ).loc Cert.KernelXaQIdeal.main_arg1) = m ((c.tc : Thread Cert.KernelXaQIdeal.nD Cert.KernelXaQIdeal.τ).loc Cert.KernelXaQIdeal.main_arg1)
          ∧ r.2.mem ((c.tc : Thread Cert.KernelXaQIdeal.nD Cert.KernelXaQIdeal.τ).loc Cert.KernelXaQIdeal.main_arg2) = m ((c.tc : Thread Cert.KernelXaQIdeal.nD Cert.KernelXaQIdeal.τ).loc Cert.KernelXaQIdeal.main_arg2))
      ∧ θ_run (Cert.ReferenceXaQIdeal.defs (F := Ideal)) (onTc (τ := Cert.ReferenceXaQIdeal.τ) (Cert.ReferenceXaQIdeal.main (F := Ideal))) ⟨m', fun _ => 0, g'⟩ (fun r => ∀ c : Dev Cert.ReferenceXaQIdeal.nD,
          r.2.mem ((c.tc : Thread Cert.ReferenceXaQIdeal.nD Cert.ReferenceXaQIdeal.τ).loc Cert.ReferenceXaQIdeal.main_v14) = v0 c
          ∧ r.2.mem ((c.tc : Thread Cert.ReferenceXaQIdeal.nD Cert.ReferenceXaQIdeal.τ).loc Cert.ReferenceXaQIdeal.main_arg0) = m' ((c.tc : Thread Cert.ReferenceXaQIdeal.nD Cert.ReferenceXaQIdeal.τ).loc Cert.ReferenceXaQIdeal.main_arg0)
          ∧ r.2.mem ((c.tc : Thread Cert.ReferenceXaQIdeal.nD Cert.ReferenceXaQIdeal.τ).loc Cert.ReferenceXaQIdeal.main_arg1) = m' ((c.tc : Thread Cert.ReferenceXaQIdeal.nD Cert.ReferenceXaQIdeal.τ).loc Cert.ReferenceXaQIdeal.main_arg1)
          ∧ r.2.mem ((c.tc : Thread Cert.ReferenceXaQIdeal.nD Cert.ReferenceXaQIdeal.τ).loc Cert.ReferenceXaQIdeal.main_arg2) = m' ((c.tc : Thread Cert.ReferenceXaQIdeal.nD Cert.ReferenceXaQIdeal.τ).loc Cert.ReferenceXaQIdeal.main_arg2))

def preserves_KernelXaKv_KernelXaKvIdeal : Prop :=
  True

def algebraic_KernelXaKvIdeal_ReferenceXaKvIdeal [hKernelXaKvIdeal : Cert.KernelXaKvIdeal.Facts] [hReferenceXaKvIdeal : Cert.ReferenceXaKvIdeal.Facts] : Prop :=
  ∀ (m : (ℓ : Loc Cert.KernelXaKvIdeal.nD Cert.KernelXaKvIdeal.τ Cert.KernelXaKvIdeal.sig) → Buf (Elt Ideal) ℓ) (g : Dev Cert.KernelXaKvIdeal.nD → PrngReg)
    (m' : (ℓ : Loc Cert.ReferenceXaKvIdeal.nD Cert.ReferenceXaKvIdeal.τ Cert.ReferenceXaKvIdeal.sig) → Buf (Elt Ideal) ℓ) (g' : Dev Cert.ReferenceXaKvIdeal.nD → PrngReg), Pre_KernelXaKvIdeal m →
    (∀ c : Dev Cert.KernelXaKvIdeal.nD,
      m' ((c.tc : Thread Cert.ReferenceXaKvIdeal.nD Cert.ReferenceXaKvIdeal.τ).loc Cert.ReferenceXaKvIdeal.main_arg0) = m ((c.tc : Thread Cert.KernelXaKvIdeal.nD Cert.KernelXaKvIdeal.τ).loc Cert.KernelXaKvIdeal.main_arg0)
      ∧ m' ((c.tc : Thread Cert.ReferenceXaKvIdeal.nD Cert.ReferenceXaKvIdeal.τ).loc Cert.ReferenceXaKvIdeal.main_arg1) = m ((c.tc : Thread Cert.KernelXaKvIdeal.nD Cert.KernelXaKvIdeal.τ).loc Cert.KernelXaKvIdeal.main_arg1)) →
    ∃ (v0 : (c : Dev Cert.KernelXaKvIdeal.nD) → Buf (Elt Ideal) ((c.tc : Thread Cert.KernelXaKvIdeal.nD Cert.KernelXaKvIdeal.τ).loc Cert.KernelXaKvIdeal.main_v1)),
      θ_run (Cert.KernelXaKvIdeal.defs (F := Ideal)) (onTc (τ := Cert.KernelXaKvIdeal.τ) (Cert.KernelXaKvIdeal.main (F := Ideal))) ⟨m, fun _ => 0, g⟩ (fun r => ∀ c : Dev Cert.KernelXaKvIdeal.nD,
          r.2.mem ((c.tc : Thread Cert.KernelXaKvIdeal.nD Cert.KernelXaKvIdeal.τ).loc Cert.KernelXaKvIdeal.main_v1) = v0 c
          ∧ r.2.mem ((c.tc : Thread Cert.KernelXaKvIdeal.nD Cert.KernelXaKvIdeal.τ).loc Cert.KernelXaKvIdeal.main_arg0) = m ((c.tc : Thread Cert.KernelXaKvIdeal.nD Cert.KernelXaKvIdeal.τ).loc Cert.KernelXaKvIdeal.main_arg0)
          ∧ r.2.mem ((c.tc : Thread Cert.KernelXaKvIdeal.nD Cert.KernelXaKvIdeal.τ).loc Cert.KernelXaKvIdeal.main_arg1) = m ((c.tc : Thread Cert.KernelXaKvIdeal.nD Cert.KernelXaKvIdeal.τ).loc Cert.KernelXaKvIdeal.main_arg1))
      ∧ θ_run (Cert.ReferenceXaKvIdeal.defs (F := Ideal)) (onTc (τ := Cert.ReferenceXaKvIdeal.τ) (Cert.ReferenceXaKvIdeal.main (F := Ideal))) ⟨m', fun _ => 0, g'⟩ (fun r => ∀ c : Dev Cert.ReferenceXaKvIdeal.nD,
          r.2.mem ((c.tc : Thread Cert.ReferenceXaKvIdeal.nD Cert.ReferenceXaKvIdeal.τ).loc Cert.ReferenceXaKvIdeal.main_v2) = v0 c
          ∧ r.2.mem ((c.tc : Thread Cert.ReferenceXaKvIdeal.nD Cert.ReferenceXaKvIdeal.τ).loc Cert.ReferenceXaKvIdeal.main_arg0) = m' ((c.tc : Thread Cert.ReferenceXaKvIdeal.nD Cert.ReferenceXaKvIdeal.τ).loc Cert.ReferenceXaKvIdeal.main_arg0)
          ∧ r.2.mem ((c.tc : Thread Cert.ReferenceXaKvIdeal.nD Cert.ReferenceXaKvIdeal.τ).loc Cert.ReferenceXaKvIdeal.main_arg1) = m' ((c.tc : Thread Cert.ReferenceXaKvIdeal.nD Cert.ReferenceXaKvIdeal.τ).loc Cert.ReferenceXaKvIdeal.main_arg1))

def preserves_KernelNormIn_KernelNormInIdeal : Prop :=
  True

def algebraic_KernelNormInIdeal_ReferenceNormInIdeal [hKernelNormInIdeal : Cert.KernelNormInIdeal.Facts] [hReferenceNormInIdeal : Cert.ReferenceNormInIdeal.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg)
    (m' : (ℓ : Loc Cert.ReferenceNormInIdeal.nD Cert.ReferenceNormInIdeal.τ Cert.ReferenceNormInIdeal.sig) → Buf (Elt Ideal) ℓ) (g' : Dev Cert.ReferenceNormInIdeal.nD → PrngReg), Pre_KernelNormInIdeal m →
    (∀ c : Dev Cert.KernelNormInIdeal.nD,
      m' ((c.tc : Thread Cert.ReferenceNormInIdeal.nD Cert.ReferenceNormInIdeal.τ).loc Cert.ReferenceNormInIdeal.main_arg0) = m ((c.tc : Thread Cert.KernelNormInIdeal.nD Cert.KernelNormInIdeal.τ).loc Cert.KernelNormInIdeal.main_arg0)
      ∧ m' ((c.tc : Thread Cert.ReferenceNormInIdeal.nD Cert.ReferenceNormInIdeal.τ).loc Cert.ReferenceNormInIdeal.main_arg1) = m ((c.tc : Thread Cert.KernelNormInIdeal.nD Cert.KernelNormInIdeal.τ).loc Cert.KernelNormInIdeal.main_arg1)) →
    ∃ (v0 : (c : Dev Cert.KernelNormInIdeal.nD) → Buf (Elt Ideal) ((c.tc : Thread Cert.KernelNormInIdeal.nD Cert.KernelNormInIdeal.τ).loc Cert.KernelNormInIdeal.main_v1)),
      θ_run (Cert.KernelNormInIdeal.defs (F := Ideal)) (onTc (τ := Cert.KernelNormInIdeal.τ) (Cert.KernelNormInIdeal.main (F := Ideal))) ⟨m, fun _ => 0, g⟩ (fun r => ∀ c : Dev Cert.KernelNormInIdeal.nD,
          r.2.mem ((c.tc : Thread Cert.KernelNormInIdeal.nD Cert.KernelNormInIdeal.τ).loc Cert.KernelNormInIdeal.main_v1) = v0 c
          ∧ r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
          ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1))
      ∧ θ_run (Cert.ReferenceNormInIdeal.defs (F := Ideal)) (onTc (τ := Cert.ReferenceNormInIdeal.τ) (Cert.ReferenceNormInIdeal.main (F := Ideal))) ⟨m', fun _ => 0, g'⟩ (fun r => ∀ c : Dev Cert.ReferenceNormInIdeal.nD,
          r.2.mem ((c.tc : Thread Cert.ReferenceNormInIdeal.nD Cert.ReferenceNormInIdeal.τ).loc Cert.ReferenceNormInIdeal.main_v13) = v0 c
          ∧ r.2.mem ((c.tc : Thread Cert.ReferenceNormInIdeal.nD Cert.ReferenceNormInIdeal.τ).loc Cert.ReferenceNormInIdeal.main_arg0) = m' ((c.tc : Thread Cert.ReferenceNormInIdeal.nD Cert.ReferenceNormInIdeal.τ).loc Cert.ReferenceNormInIdeal.main_arg0)
          ∧ r.2.mem ((c.tc : Thread Cert.ReferenceNormInIdeal.nD Cert.ReferenceNormInIdeal.τ).loc Cert.ReferenceNormInIdeal.main_arg1) = m' ((c.tc : Thread Cert.ReferenceNormInIdeal.nD Cert.ReferenceNormInIdeal.τ).loc Cert.ReferenceNormInIdeal.main_arg1))

def preserves_KernelNormMem_KernelNormMemIdeal : Prop :=
  True

def algebraic_KernelNormMemIdeal_ReferenceNormMemIdeal [hKernelNormMemIdeal : Cert.KernelNormMemIdeal.Facts] [hReferenceNormMemIdeal : Cert.ReferenceNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg)
    (m' : (ℓ : Loc Cert.ReferenceNormMemIdeal.nD Cert.ReferenceNormMemIdeal.τ Cert.ReferenceNormMemIdeal.sig) → Buf (Elt Ideal) ℓ) (g' : Dev Cert.ReferenceNormMemIdeal.nD → PrngReg), Pre_KernelNormMemIdeal m →
    (∀ c : Dev Cert.KernelNormMemIdeal.nD,
      m' ((c.tc : Thread Cert.ReferenceNormMemIdeal.nD Cert.ReferenceNormMemIdeal.τ).loc Cert.ReferenceNormMemIdeal.main_arg0) = m ((c.tc : Thread Cert.KernelNormMemIdeal.nD Cert.KernelNormMemIdeal.τ).loc Cert.KernelNormMemIdeal.main_arg0)
      ∧ m' ((c.tc : Thread Cert.ReferenceNormMemIdeal.nD Cert.ReferenceNormMemIdeal.τ).loc Cert.ReferenceNormMemIdeal.main_arg1) = m ((c.tc : Thread Cert.KernelNormMemIdeal.nD Cert.KernelNormMemIdeal.τ).loc Cert.KernelNormMemIdeal.main_arg1)) →
    ∃ (v0 : (c : Dev Cert.KernelNormMemIdeal.nD) → Buf (Elt Ideal) ((c.tc : Thread Cert.KernelNormMemIdeal.nD Cert.KernelNormMemIdeal.τ).loc Cert.KernelNormMemIdeal.main_v1)),
      θ_run (Cert.KernelNormMemIdeal.defs (F := Ideal)) (onTc (τ := Cert.KernelNormMemIdeal.τ) (Cert.KernelNormMemIdeal.main (F := Ideal))) ⟨m, fun _ => 0, g⟩ (fun r => ∀ c : Dev Cert.KernelNormMemIdeal.nD,
          r.2.mem ((c.tc : Thread Cert.KernelNormMemIdeal.nD Cert.KernelNormMemIdeal.τ).loc Cert.KernelNormMemIdeal.main_v1) = v0 c
          ∧ r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
          ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1))
      ∧ θ_run (Cert.ReferenceNormMemIdeal.defs (F := Ideal)) (onTc (τ := Cert.ReferenceNormMemIdeal.τ) (Cert.ReferenceNormMemIdeal.main (F := Ideal))) ⟨m', fun _ => 0, g'⟩ (fun r => ∀ c : Dev Cert.ReferenceNormMemIdeal.nD,
          r.2.mem ((c.tc : Thread Cert.ReferenceNormMemIdeal.nD Cert.ReferenceNormMemIdeal.τ).loc Cert.ReferenceNormMemIdeal.main_v13) = v0 c
          ∧ r.2.mem ((c.tc : Thread Cert.ReferenceNormMemIdeal.nD Cert.ReferenceNormMemIdeal.τ).loc Cert.ReferenceNormMemIdeal.main_arg0) = m' ((c.tc : Thread Cert.ReferenceNormMemIdeal.nD Cert.ReferenceNormMemIdeal.τ).loc Cert.ReferenceNormMemIdeal.main_arg0)
          ∧ r.2.mem ((c.tc : Thread Cert.ReferenceNormMemIdeal.nD Cert.ReferenceNormMemIdeal.τ).loc Cert.ReferenceNormMemIdeal.main_arg1) = m' ((c.tc : Thread Cert.ReferenceNormMemIdeal.nD Cert.ReferenceNormMemIdeal.τ).loc Cert.ReferenceNormMemIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelXattn_KernelXattnIdeal : Prop :=
  True

def algebraic_KernelXattnIdeal_ReferenceXattnIdeal [hKernelXattnIdeal : Cert.KernelXattnIdeal.Facts] [hReferenceXattnIdeal : Cert.ReferenceXattnIdeal.Facts] : Prop :=
  ∀ (m : (ℓ : Loc Cert.KernelXattnIdeal.nD Cert.KernelXattnIdeal.τ Cert.KernelXattnIdeal.sig) → Buf (Elt Ideal) ℓ) (g : Dev Cert.KernelXattnIdeal.nD → PrngReg)
    (m' : (ℓ : Loc Cert.ReferenceXattnIdeal.nD Cert.ReferenceXattnIdeal.τ Cert.ReferenceXattnIdeal.sig) → Buf (Elt Ideal) ℓ) (g' : Dev Cert.ReferenceXattnIdeal.nD → PrngReg), Pre_KernelXattnIdeal m →
    (∀ c : Dev Cert.KernelXattnIdeal.nD,
      m' ((c.tc : Thread Cert.ReferenceXattnIdeal.nD Cert.ReferenceXattnIdeal.τ).loc Cert.ReferenceXattnIdeal.main_arg0) = m ((c.tc : Thread Cert.KernelXattnIdeal.nD Cert.KernelXattnIdeal.τ).loc Cert.KernelXattnIdeal.main_arg0)
      ∧ m' ((c.tc : Thread Cert.ReferenceXattnIdeal.nD Cert.ReferenceXattnIdeal.τ).loc Cert.ReferenceXattnIdeal.main_arg1) = m ((c.tc : Thread Cert.KernelXattnIdeal.nD Cert.KernelXattnIdeal.τ).loc Cert.KernelXattnIdeal.main_arg1)) →
    ∃ (v0 : (c : Dev Cert.KernelXattnIdeal.nD) → Buf (Elt Ideal) ((c.tc : Thread Cert.KernelXattnIdeal.nD Cert.KernelXattnIdeal.τ).loc Cert.KernelXattnIdeal.main_v0)),
      θ_run (Cert.KernelXattnIdeal.defs (F := Ideal)) (onTc (τ := Cert.KernelXattnIdeal.τ) (Cert.KernelXattnIdeal.main (F := Ideal))) ⟨m, fun _ => 0, g⟩ (fun r => ∀ c : Dev Cert.KernelXattnIdeal.nD,
          r.2.mem ((c.tc : Thread Cert.KernelXattnIdeal.nD Cert.KernelXattnIdeal.τ).loc Cert.KernelXattnIdeal.main_v0) = v0 c
          ∧ r.2.mem ((c.tc : Thread Cert.KernelXattnIdeal.nD Cert.KernelXattnIdeal.τ).loc Cert.KernelXattnIdeal.main_arg0) = m ((c.tc : Thread Cert.KernelXattnIdeal.nD Cert.KernelXattnIdeal.τ).loc Cert.KernelXattnIdeal.main_arg0)
          ∧ r.2.mem ((c.tc : Thread Cert.KernelXattnIdeal.nD Cert.KernelXattnIdeal.τ).loc Cert.KernelXattnIdeal.main_arg1) = m ((c.tc : Thread Cert.KernelXattnIdeal.nD Cert.KernelXattnIdeal.τ).loc Cert.KernelXattnIdeal.main_arg1))
      ∧ θ_run (Cert.ReferenceXattnIdeal.defs (F := Ideal)) (onTc (τ := Cert.ReferenceXattnIdeal.τ) (Cert.ReferenceXattnIdeal.main (F := Ideal))) ⟨m', fun _ => 0, g'⟩ (fun r => ∀ c : Dev Cert.ReferenceXattnIdeal.nD,
          r.2.mem ((c.tc : Thread Cert.ReferenceXattnIdeal.nD Cert.ReferenceXattnIdeal.τ).loc Cert.ReferenceXattnIdeal.main_v24) = v0 c
          ∧ r.2.mem ((c.tc : Thread Cert.ReferenceXattnIdeal.nD Cert.ReferenceXattnIdeal.τ).loc Cert.ReferenceXattnIdeal.main_arg0) = m' ((c.tc : Thread Cert.ReferenceXattnIdeal.nD Cert.ReferenceXattnIdeal.τ).loc Cert.ReferenceXattnIdeal.main_arg0)
          ∧ r.2.mem ((c.tc : Thread Cert.ReferenceXattnIdeal.nD Cert.ReferenceXattnIdeal.τ).loc Cert.ReferenceXattnIdeal.main_arg1) = m' ((c.tc : Thread Cert.ReferenceXattnIdeal.nD Cert.ReferenceXattnIdeal.τ).loc Cert.ReferenceXattnIdeal.main_arg1))

def Claim : Prop :=
  ∃ (hKernelSwiglu : Cert.KernelSwiglu.Facts) (hKernelSwigluIdeal : Cert.KernelSwigluIdeal.Facts) (hReferenceSwigluIdeal : Cert.ReferenceSwigluIdeal.Facts) (hKernelGate : Cert.KernelGate.Facts) (hKernelGateIdeal : Cert.KernelGateIdeal.Facts) (hReferenceGateIdeal : Cert.ReferenceGateIdeal.Facts) (hKernelFfnOut : Cert.KernelFfnOut.Facts) (hKernelFfnOutIdeal : Cert.KernelFfnOutIdeal.Facts) (hReferenceFfnOutIdeal : Cert.ReferenceFfnOutIdeal.Facts) (hKernelQkv : Cert.KernelQkv.Facts) (hKernelQkvIdeal : Cert.KernelQkvIdeal.Facts) (hReferenceQkvIdeal : Cert.ReferenceQkvIdeal.Facts) (hKernelZ : Cert.KernelZ.Facts) (hKernelZIdeal : Cert.KernelZIdeal.Facts) (hReferenceZIdeal : Cert.ReferenceZIdeal.Facts) (hKernelXbc : Cert.KernelXbc.Facts) (hKernelXbcIdeal : Cert.KernelXbcIdeal.Facts) (hReferenceXbcIdeal : Cert.ReferenceXbcIdeal.Facts) (hKernelDt : Cert.KernelDt.Facts) (hKernelDtIdeal : Cert.KernelDtIdeal.Facts) (hReferenceDtIdeal : Cert.ReferenceDtIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelXaQ : Cert.KernelXaQ.Facts) (hKernelXaQIdeal : Cert.KernelXaQIdeal.Facts) (hReferenceXaQIdeal : Cert.ReferenceXaQIdeal.Facts) (hKernelXaKv : Cert.KernelXaKv.Facts) (hKernelXaKvIdeal : Cert.KernelXaKvIdeal.Facts) (hReferenceXaKvIdeal : Cert.ReferenceXaKvIdeal.Facts) (hKernelNormIn : Cert.KernelNormIn.Facts) (hKernelNormInIdeal : Cert.KernelNormInIdeal.Facts) (hReferenceNormInIdeal : Cert.ReferenceNormInIdeal.Facts) (hKernelNormMem : Cert.KernelNormMem.Facts) (hKernelNormMemIdeal : Cert.KernelNormMemIdeal.Facts) (hReferenceNormMemIdeal : Cert.ReferenceNormMemIdeal.Facts) (hKernelNorm : Cert.KernelNorm.Facts) (hKernelNormIdeal : Cert.KernelNormIdeal.Facts) (hReferenceNormIdeal : Cert.ReferenceNormIdeal.Facts) (hKernelXattn : Cert.KernelXattn.Facts) (hKernelXattnIdeal : Cert.KernelXattnIdeal.Facts) (hReferenceXattnIdeal : Cert.ReferenceXattnIdeal.Facts) (hPre_finite_swiglu : Cert.Pre_finite_swiglu.Facts),
    quiescent_KernelSwiglu (hKernelSwiglu := hKernelSwiglu)
    ∧ quiescent_KernelSwigluIdeal (hKernelSwigluIdeal := hKernelSwigluIdeal)
    ∧ quiescent_KernelSwigluIdeal_pre_finite_swiglu (hKernelSwigluIdeal := hKernelSwigluIdeal) (hPre_finite_swiglu := hPre_finite_swiglu)
    ∧ quiescent_ReferenceSwigluIdeal (hReferenceSwigluIdeal := hReferenceSwigluIdeal)
    ∧ quiescent_ReferenceSwigluIdeal_pre_finite_swiglu (hReferenceSwigluIdeal := hReferenceSwigluIdeal) (hPre_finite_swiglu := hPre_finite_swiglu)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelXbc (hKernelXbc := hKernelXbc)
    ∧ quiescent_KernelXbcIdeal (hKernelXbcIdeal := hKernelXbcIdeal)
    ∧ quiescent_ReferenceXbcIdeal (hReferenceXbcIdeal := hReferenceXbcIdeal)
    ∧ quiescent_KernelDt (hKernelDt := hKernelDt)
    ∧ quiescent_KernelDtIdeal (hKernelDtIdeal := hKernelDtIdeal)
    ∧ quiescent_ReferenceDtIdeal (hReferenceDtIdeal := hReferenceDtIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelXaQ (hKernelXaQ := hKernelXaQ)
    ∧ quiescent_KernelXaQIdeal (hKernelXaQIdeal := hKernelXaQIdeal)
    ∧ quiescent_ReferenceXaQIdeal (hReferenceXaQIdeal := hReferenceXaQIdeal)
    ∧ quiescent_KernelXaKv (hKernelXaKv := hKernelXaKv)
    ∧ quiescent_KernelXaKvIdeal (hKernelXaKvIdeal := hKernelXaKvIdeal)
    ∧ quiescent_ReferenceXaKvIdeal (hReferenceXaKvIdeal := hReferenceXaKvIdeal)
    ∧ quiescent_KernelNormIn (hKernelNormIn := hKernelNormIn)
    ∧ quiescent_KernelNormInIdeal (hKernelNormInIdeal := hKernelNormInIdeal)
    ∧ quiescent_ReferenceNormInIdeal (hReferenceNormInIdeal := hReferenceNormInIdeal)
    ∧ quiescent_KernelNormMem (hKernelNormMem := hKernelNormMem)
    ∧ quiescent_KernelNormMemIdeal (hKernelNormMemIdeal := hKernelNormMemIdeal)
    ∧ quiescent_ReferenceNormMemIdeal (hReferenceNormMemIdeal := hReferenceNormMemIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelXattn (hKernelXattn := hKernelXattn)
    ∧ quiescent_KernelXattnIdeal (hKernelXattnIdeal := hKernelXattnIdeal)
    ∧ quiescent_ReferenceXattnIdeal (hReferenceXattnIdeal := hReferenceXattnIdeal)
    ∧ preserves_KernelSwiglu_KernelSwigluIdeal
    ∧ algebraic_KernelSwigluIdeal_ReferenceSwigluIdeal_pre_finite_swiglu (hKernelSwigluIdeal := hKernelSwigluIdeal) (hReferenceSwigluIdeal := hReferenceSwigluIdeal) (hPre_finite_swiglu := hPre_finite_swiglu)
    ∧ preserves_KernelGate_KernelGateIdeal
    ∧ algebraic_KernelGateIdeal_ReferenceGateIdeal (hKernelGateIdeal := hKernelGateIdeal) (hReferenceGateIdeal := hReferenceGateIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelZ_KernelZIdeal
    ∧ algebraic_KernelZIdeal_ReferenceZIdeal (hKernelZIdeal := hKernelZIdeal) (hReferenceZIdeal := hReferenceZIdeal)
    ∧ preserves_KernelXbc_KernelXbcIdeal
    ∧ algebraic_KernelXbcIdeal_ReferenceXbcIdeal (hKernelXbcIdeal := hKernelXbcIdeal) (hReferenceXbcIdeal := hReferenceXbcIdeal)
    ∧ preserves_KernelDt_KernelDtIdeal
    ∧ algebraic_KernelDtIdeal_ReferenceDtIdeal (hKernelDtIdeal := hKernelDtIdeal) (hReferenceDtIdeal := hReferenceDtIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelXaQ_KernelXaQIdeal
    ∧ algebraic_KernelXaQIdeal_ReferenceXaQIdeal (hKernelXaQIdeal := hKernelXaQIdeal) (hReferenceXaQIdeal := hReferenceXaQIdeal)
    ∧ preserves_KernelXaKv_KernelXaKvIdeal
    ∧ algebraic_KernelXaKvIdeal_ReferenceXaKvIdeal (hKernelXaKvIdeal := hKernelXaKvIdeal) (hReferenceXaKvIdeal := hReferenceXaKvIdeal)
    ∧ preserves_KernelNormIn_KernelNormInIdeal
    ∧ algebraic_KernelNormInIdeal_ReferenceNormInIdeal (hKernelNormInIdeal := hKernelNormInIdeal) (hReferenceNormInIdeal := hReferenceNormInIdeal)
    ∧ preserves_KernelNormMem_KernelNormMemIdeal
    ∧ algebraic_KernelNormMemIdeal_ReferenceNormMemIdeal (hKernelNormMemIdeal := hKernelNormMemIdeal) (hReferenceNormMemIdeal := hReferenceNormMemIdeal)
    ∧ preserves_KernelNorm_KernelNormIdeal
    ∧ algebraic_KernelNormIdeal_ReferenceNormIdeal (hKernelNormIdeal := hKernelNormIdeal) (hReferenceNormIdeal := hReferenceNormIdeal)
    ∧ preserves_KernelXattn_KernelXattnIdeal
    ∧ algebraic_KernelXattnIdeal_ReferenceXattnIdeal (hKernelXattnIdeal := hKernelXattnIdeal) (hReferenceXattnIdeal := hReferenceXattnIdeal)
-- ==== Pre_finite_swiglu.lean ====
abbrev S16384x4096 : Shape := ⟨2, ![16384, 4096]⟩
abbrev S4096x22016 : Shape := ⟨2, ![4096, 22016]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  bcast_S_S4096x22016 : S_.BroadcastsInDim S4096x22016 (![] : Fin 0 → Fin S4096x22016.rank)
  bcast_S_S4096 : S_.BroadcastsInDim S4096 (![] : Fin 0 → Fin S4096.rank)

variable [Facts]

def fn {F : FTy → Type} [FloatOps F] (main_arg0 : FVec F S16384x4096 .f32) (main_arg1 : FVec F S4096x22016 .f32) (main_arg2 : FVec F S4096 .f32) : IVec S16384x4096 1 × IVec S4096x22016 1 × IVec S4096 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S4096x22016 .f32 := Host.absf main_arg1
  let main_cst_0 : FVec F S_ .f32 := constant S_ .f32 0x7F800000#32
  let main_v4 : FVec F S4096x22016 .f32 := broadcastInDim S4096x22016 ![] bcast_S_S4096x22016 main_cst_0
  let main_v5 : IVec S4096x22016 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  (main_v2, main_v5, main_v8)
-- ==== KernelSwiglu.lean ====
abbrev S16384x4096 : Shape := ⟨2, ![16384, 4096]⟩
abbrev S4096x22016 : Shape := ⟨2, ![4096, 22016]⟩
abbrev S4096 : Shape := ⟨1, ![4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x4096 : Shape := ⟨2, ![1, 4096]⟩
abbrev S16384x11008 : Shape := ⟨2, ![16384, 11008]⟩
abbrev S2048x4096 : Shape := ⟨2, ![2048, 4096]⟩
abbrev S4096x256 : Shape := ⟨2, ![4096, 256]⟩
abbrev S2048x128 : Shape := ⟨2, ![2048, 128]⟩
abbrev S2048x256 : Shape := ⟨2, ![2048, 256]⟩
abbrev S2048x1 : Shape := ⟨2, ![2048, 1]⟩

abbrev nBuf : Space → Nat
  | .hbm => 12
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096x22016, .f32⟩
  | .hbm, ⟨2, _⟩ => ⟨S4096, .f32⟩
  | .hbm, ⟨3, _⟩ => ⟨S16384x4096, .bf16⟩
  | .hbm, ⟨4, _⟩ => ⟨S4096x22016, .bf16⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x128, .f32⟩
  | .hbm, ⟨10, _⟩ => ⟨S1x4096, .f32⟩
  | .hbm, ⟨11, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S2048x128, .f32⟩
  | .local _ .vmem, ⟨7, _⟩ => ⟨S2048x128, .f32⟩
  | .local _ .vmem, ⟨8, _⟩ => ⟨S1x4096, .f32⟩
  | .local _ .vmem, ⟨9, _⟩ => ⟨S2048x256, .bf16⟩
  | .local _ .vmem, ⟨10, _⟩ => ⟨S2048x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceSwigluIdeal.lean ====
abbrev S16384x4096 : Shape := ⟨2, ![16384, 4096]⟩
abbrev S4096x22016 : Shape := ⟨2, ![4096, 22016]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x22016 : Shape := ⟨2, ![16384, 22016]⟩
abbrev S16384x11008 : Shape := ⟨2, ![16384, 11008]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x22016, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x22016, .f32⟩
  | .hbm, ⟨20, _⟩ => ⟨S16384x11008, .f32⟩
  | .hbm, ⟨21, _⟩ => ⟨S16384x11008, .f32⟩
  | .hbm, ⟨22, _⟩ => ⟨S16384x11008, .f32⟩
  | .hbm, ⟨23, _⟩ => ⟨S16384x11008, .f32⟩
  | .hbm, ⟨24, _⟩ => ⟨S_, .f32⟩
  | .hbm, ⟨25, _⟩ => ⟨S16384x11008, .f32⟩
  | .hbm, ⟨26, _⟩ => ⟨S16384x11008, .f32⟩
  | .hbm, ⟨27, _⟩ => ⟨S_, .f32⟩
  | .hbm, ⟨28, _⟩ => ⟨S16384x11008, .f32⟩
  | .hbm, ⟨29, _⟩ => ⟨S16384x11008, .f32⟩
  | .hbm, ⟨30, _⟩ => ⟨S16384x11008, .f32⟩
  | .hbm, ⟨31, _⟩ => ⟨S16384x11008, .f32⟩
  | .hbm, ⟨32, _⟩ => ⟨S16384x11008, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== KernelGate.lean ====
abbrev S16384x4096 : Shape := ⟨2, ![16384, 4096]⟩
abbrev S16384x6144 : Shape := ⟨2, ![16384, 6144]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S4096x30784 : Shape := ⟨2, ![4096, 30784]⟩
abbrev S30784x4096 : Shape := ⟨2, ![30784, 4096]⟩
abbrev S20480x4096 : Shape := ⟨2, ![20480, 4096]⟩
abbrev S_ : Shape := ⟨0, ![]⟩
abbrev S128 : Shape := ⟨1, ![128]⟩
abbrev S128x1 : Shape := ⟨2, ![128, 1]⟩
abbrev S1x4096 : Shape := ⟨2, ![1, 4096]⟩
abbrev S128x4096 : Shape := ⟨2, ![128, 4096]⟩
abbrev S1x6144 : Shape := ⟨2, ![1, 6144]⟩
abbrev S1x128 : Shape := ⟨2, ![1, 128]⟩
abbrev S64x64 : Shape := ⟨2, ![64, 64]⟩
abbrev S16384x8192 : Shape := ⟨2, ![16384, 8192]⟩
abbrev S64x6144 : Shape := ⟨2, ![64, 6144]⟩
abbrev S64x4096 : Shape := ⟨2, ![64, 4096]⟩
abbrev S64x128 : Shape := ⟨2, ![64, 128]⟩
abbrev S1024x4096 : Shape := ⟨2, ![1024, 4096]⟩
abbrev S512x4096 : Shape := ⟨2, ![512, 4096]⟩
abbrev S1024x512 : Shape := ⟨2, ![1024, 512]⟩
abbrev S72x6144 : Shape := ⟨2, ![72, 6144]⟩
abbrev S8x6144 : Shape := ⟨2, ![8, 6144]⟩
abbrev S64x192 : Shape := ⟨2, ![64, 192]⟩
abbrev S192x128 : Shape := ⟨2, ![192, 128]⟩
abbrev S384x128 : Shape := ⟨2, ![384, 128]⟩
abbrev S64x512 : Shape := ⟨2, ![64, 512]⟩
abbrev S64x256 : Shape := ⟨2, ![64, 256]⟩
abbrev S256x4096 : Shape := ⟨2, ![256, 4096]⟩
abbrev S1024x256 : Shape := ⟨2, ![1024, 256]⟩
abbrev S1x512 : Shape := ⟨2, ![1, 512]⟩
abbrev S128x512 : Shape := ⟨2, ![128, 512]⟩
abbrev S384x512 : Shape := ⟨2, ![384, 512]⟩
abbrev S512 : Shape := ⟨1, ![512]⟩
abbrev S512x128 : Shape := ⟨2, ![512, 128]⟩
abbrev S256x256 : Shape := ⟨2, ![256, 256]⟩
abbrev S128x64 : Shape := ⟨2, ![128, 64]⟩
abbrev S64x1 : Shape := ⟨2, ![64, 1]⟩

abbrev nBuf : Space → Nat
  | .hbm => 55
  | .vmem => 23
  | .smem => 0
  | _ => 0

abbrev bufTy : (tb : Table) → Fin (tcTables nBuf tb) → BufTy
  | .hbm, ⟨0, _⟩ => ⟨S16384x4096, .f32⟩
  | .hbm, ⟨1, _⟩ => ⟨S16384x6144, .f32⟩
  | .hbm, ⟨2, _⟩ => ⟨S16384x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S16384x4096, .bf16⟩
  | .hbm, ⟨10, _⟩ => ⟨S4096x30784, .f32⟩
  | .hbm, ⟨11, _⟩ => ⟨S30784x4096, .f32⟩
  | .hbm, ⟨12, _⟩ => ⟨S30784x4096, .bf16⟩
  | .hbm, ⟨13, _⟩ => ⟨S20480x4096, .bf16⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S128, .i32⟩
  | .hbm, ⟨34, _⟩ => ⟨S128x1, .i32⟩
  | .hbm, ⟨35, _⟩ => ⟨S1x4096, .i32⟩
  | .hbm, ⟨36, _⟩ => ⟨S128x4096, .i32⟩
  | .hbm, ⟨37, _⟩ => ⟨S128x4096, .i32⟩
  | .hbm, ⟨38, _⟩ => ⟨S128x4096, .i1⟩
  | .hbm, ⟨39, _⟩ => ⟨S128x4096, .bf16⟩
  | .hbm, ⟨40, _⟩ => ⟨S1x6144, .f32⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S64x64, .f32⟩
  | .hbm, ⟨50, _⟩ => ⟨S4096, .f32⟩
  | .hbm, ⟨51, _⟩ => ⟨S1x4096, .f32⟩
  | .hbm, ⟨52, _⟩ => ⟨S1x4096, .f32⟩
  | .hbm, ⟨53, _⟩ => ⟨S16384x4096, .bf16⟩
  | .hbm, ⟨54, _⟩ => ⟨S16384x8192, .f32⟩
  | .local _ .vmem, ⟨0, _⟩ => ⟨S64x6144, .f32⟩
  | .local _ .vmem, ⟨1, _⟩ => ⟨S64x6144, .f32⟩
  | .local _ .vmem, ⟨2, _⟩ => ⟨S64x4096, .f32⟩
  | .local _ .vmem, ⟨3, _⟩ => ⟨S64x4096, .f32⟩
  | .local _ .vmem, ⟨4, _⟩ => ⟨S64x128, .f32⟩
  | .local _ .vmem, ⟨5, _⟩ => ⟨S64x128, .f32⟩
  | .local _ .vmem, ⟨6, _⟩ => ⟨S4x6144, .f32⟩
  | .local _ .vmem, ⟨7, _⟩ => ⟨S1x6144, .f32⟩
  | .local _ .vmem, ⟨8, _⟩ => ⟨S1x128, .f32⟩
  | .local _ .vmem, ⟨9, _⟩ => ⟨S1x128, .f32⟩
  | .local _ .vmem, ⟨10, _⟩ => ⟨S1x4096, .f32⟩
  | .local _ .vmem, ⟨11, _⟩ => ⟨S1x4096, .f32⟩
  | .local _ .vmem, ⟨12, _⟩ => ⟨S128x4096, .bf16⟩
  | .local _ .vmem, ⟨13, _⟩ => ⟨S1024x4096, .bf16⟩
  | .local _ .vmem, ⟨14, _⟩ => ⟨S1024x4096, .bf16⟩
  | .local _ .vmem, ⟨15, _⟩ => ⟨S512x4096, .bf16⟩
  | .local _ .vmem, ⟨16, _⟩ => ⟨S512x4096, .bf16⟩
  | .local _ .vmem, ⟨17, _⟩ => ⟨S64x4096, .bf16⟩
  | .local _ .vmem, ⟨18, _⟩ => ⟨S64x4096, .bf16⟩
  | .local _ .vmem, ⟨19, _⟩ => ⟨S1024x512, .f32⟩
  | .local _ .vmem, ⟨20, _⟩ => ⟨S1024x512, .f32⟩
  | .local _ .vmem, ⟨21, _⟩ => ⟨S72x6144, .f32⟩
  | .local _ .vmem, ⟨22, _⟩ => ⟨S128x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_0 : Ref sig .tc := ⟨.hbm, 41, rfl⟩
abbrev main_call1_v0 : Ref sig .tc := ⟨.hbm, 42, rfl⟩
abbrev main_v13 : Ref sig .tc := ⟨.hbm, 43, rfl⟩
abbrev main_v14 : Ref sig .tc := ⟨.hbm, 44, rfl⟩
abbrev main_c_1 : Ref sig .tc := ⟨.hbm, 45, rfl⟩
abbrev main_call2_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21_0 : Ref sig .tc := ⟨.hbm, 53, rfl⟩
abbrev main_v21_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c24_i32 : BitVec 32 := 24#32
  let v12 : BitVec 32 := Scalar.addi c24_i32 v11
  let c0_i32_3 : BitVec 32 := 0#32
  let c0_i32_4 : BitVec 32 := 0#32
  ![v12.toNat, c0_i32_3.toNat]

def cc0_transform_12 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c64_i32_4 : BitVec 32 := 64#32
  let v19 : BitVec 32 := Scalar.muli arg0 c64_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v18.toNat, v30.toNat]

abbrev stage0_0 : Fin 2 → Memref sig .tc .vmem S64x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceGateIdeal.lean ====
abbrev S16384x4096 : Shape := ⟨2, ![16384, 4096]⟩
abbrev S16384x6144 : Shape := ⟨2, ![16384, 6144]⟩
abbrev S16384x128 : Shape := ⟨2, ![16384, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S4096x30784 : Shape := ⟨2, ![4096, 30784]⟩
abbrev S16384x30784 : Shape := ⟨2, ![16384, 30784]⟩
abbrev S16384x8192 : Shape := ⟨2, ![16384, 8192]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x6144, .f32⟩
  | .hbm, ⟨2, _⟩ => ⟨S16384x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S16384x4096, .bf16⟩
  | .hbm, ⟨10, _⟩ => ⟨S4096x30784, .f32⟩
  | .hbm, ⟨11, _⟩ => ⟨S16384x4096, .f32⟩
  | .hbm, ⟨12, _⟩ => ⟨S16384x30784, .f32⟩
  | .hbm, ⟨13, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]
-- ==== KernelFfnOut.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnOutIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelQkv.lean ====
abbrev S16384x4096 : Shape := ⟨2, ![16384, 4096]⟩
abbrev S4096x30784 : Shape := ⟨2, ![4096, 30784]⟩
abbrev S30784x4096 : Shape := ⟨2, ![30784, 4096]⟩
abbrev S20480x4096 : Shape := ⟨2, ![20480, 4096]⟩
abbrev S16384x12288 : Shape := ⟨2, ![16384, 12288]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S30784x4096, .f32⟩
  | .hbm, ⟨3, _⟩ => ⟨S30784x4096, .bf16⟩
  | .hbm, ⟨4, _⟩ => ⟨S20480x4096, .bf16⟩
  | .hbm, ⟨5, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkvIdeal.lean ====
abbrev S16384x4096 : Shape := ⟨2, ![16384, 4096]⟩
abbrev S4096x30784 : Shape := ⟨2, ![4096, 30784]⟩
abbrev S16384x30784 : Shape := ⟨2, ![16384, 30784]⟩
abbrev S16384x12288 : Shape := ⟨2, ![16384, 12288]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S16384x4096, .f32⟩
  | .hbm, ⟨3, _⟩ => ⟨S16384x30784, .f32⟩
  | .hbm, ⟨4, _⟩ => ⟨S16384x12288, .f32⟩
  | .hbm, ⟨5, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelZ.lean ====
abbrev S16384x4096 : Shape := ⟨2, ![16384, 4096]⟩
abbrev S4096x30784 : Shape := ⟨2, ![4096, 30784]⟩
abbrev S30784x4096 : Shape := ⟨2, ![30784, 4096]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S30784x4096, .f32⟩
  | .hbm, ⟨3, _⟩ => ⟨S30784x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S16384x4096 : Shape := ⟨2, ![16384, 4096]⟩
abbrev S4096x30784 : Shape := ⟨2, ![4096, 30784]⟩
abbrev S16384x30784 : Shape := ⟨2, ![16384, 30784]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S16384x4096, .f32⟩
  | .hbm, ⟨3, _⟩ => ⟨S16384x30784, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelXbc.lean ====
abbrev S16384x4096 : Shape := ⟨2, ![16384, 4096]⟩
abbrev S4096x30784 : Shape := ⟨2, ![4096, 30784]⟩
abbrev S30784x4096 : Shape := ⟨2, ![30784, 4096]⟩
abbrev S16384x6144 : Shape := ⟨2, ![16384, 6144]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S30784x4096, .f32⟩
  | .hbm, ⟨3, _⟩ => ⟨S30784x4096, .bf16⟩
  | .hbm, ⟨4, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXbcIdeal.lean ====
abbrev S16384x4096 : Shape := ⟨2, ![16384, 4096]⟩
abbrev S4096x30784 : Shape := ⟨2, ![4096, 30784]⟩
abbrev S16384x30784 : Shape := ⟨2, ![16384, 30784]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S16384x4096, .f32⟩
  | .hbm, ⟨3, _⟩ => ⟨S16384x30784, .f32⟩
  | .hbm, ⟨4, _⟩ => ⟨S16384x6144, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDt.lean ====
abbrev S16384x4096 : Shape := ⟨2, ![16384, 4096]⟩
abbrev S4096x30784 : Shape := ⟨2, ![4096, 30784]⟩
abbrev S30784x4096 : Shape := ⟨2, ![30784, 4096]⟩
abbrev S16384x128 : Shape := ⟨2, ![16384, 128]⟩
abbrev S1024x4096 : Shape := ⟨2, ![1024, 4096]⟩
abbrev S128x4096 : Shape := ⟨2, ![128, 4096]⟩
abbrev S1024x128 : Shape := ⟨2, ![1024, 128]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S30784x4096, .f32⟩
  | .hbm, ⟨3, _⟩ => ⟨S30784x4096, .bf16⟩
  | .hbm, ⟨4, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S1024x128, .f32⟩
  | .local _ .vmem, ⟨4, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi arg1 c80_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDtIdeal.lean ====
abbrev S16384x4096 : Shape := ⟨2, ![16384, 4096]⟩
abbrev S4096x30784 : Shape := ⟨2, ![4096, 30784]⟩
abbrev S16384x30784 : Shape := ⟨2, ![16384, 30784]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x30784, .f32⟩
  | .hbm, ⟨2, _⟩ => ⟨S16384x4096, .f32⟩
  | .hbm, ⟨3, _⟩ => ⟨S16384x30784, .f32⟩
  | .hbm, ⟨4, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMerge.lean ====
abbrev S16384x4096 : Shape := ⟨2, ![16384, 4096]⟩
abbrev S4096x4096 : Shape := ⟨2, ![4096, 4096]⟩
abbrev S16384x8192 : Shape := ⟨2, ![16384, 8192]⟩
abbrev S8192 : Shape := ⟨1, ![8192]⟩
abbrev S1x8192 : Shape := ⟨2, ![1, 8192]⟩
abbrev S512x4096 : Shape := ⟨2, ![512, 4096]⟩
abbrev S4096x512 : Shape := ⟨2, ![4096, 512]⟩
abbrev S512x512 : Shape := ⟨2, ![512, 512]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .f32⟩
  | .hbm, ⟨3, _⟩ => ⟨S4096x4096, .f32⟩
  | .hbm, ⟨4, _⟩ => ⟨S16384x8192, .f32⟩
  | .hbm, ⟨5, _⟩ => ⟨S8192, .f32⟩
  | .hbm, ⟨6, _⟩ => ⟨S4096x4096, .bf16⟩
  | .hbm, ⟨7, _⟩ => ⟨S4096x4096, .bf16⟩
  | .hbm, ⟨8, _⟩ => ⟨S1x8192, .f32⟩
  | .hbm, ⟨9, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMergeIdeal.lean ====
abbrev S16384x4096 : Shape := ⟨2, ![16384, 4096]⟩
abbrev S4096x4096 : Shape := ⟨2, ![4096, 4096]⟩
abbrev S16384x8192 : Shape := ⟨2, ![16384, 8192]⟩
abbrev S8192 : Shape := ⟨1, ![8192]⟩
abbrev S1x8192 : Shape := ⟨2, ![1, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S4096x4096, .f32⟩
  | .hbm, ⟨3, _⟩ => ⟨S4096x4096, .f32⟩
  | .hbm, ⟨4, _⟩ => ⟨S16384x8192, .f32⟩
  | .hbm, ⟨5, _⟩ => ⟨S8192, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S_, .f32⟩
  | .hbm, ⟨19, _⟩ => ⟨S16384x8192, .f32⟩
  | .hbm, ⟨20, _⟩ => ⟨S16384x8192, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelOut.lean ====
abbrev S16384x4096 : Shape := ⟨2, ![16384, 4096]⟩
abbrev S4096x4096 : Shape := ⟨2, ![4096, 4096]⟩
abbrev S16384x128 : Shape := ⟨2, ![16384, 128]⟩
abbrev S1024x4096 : Shape := ⟨2, ![1024, 4096]⟩
abbrev S4096x512 : Shape := ⟨2, ![4096, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .hbm, ⟨5, _⟩ => ⟨S16384x4096, .bf16⟩
  | .hbm, ⟨6, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceOutIdeal.lean ====
abbrev S16384x4096 : Shape := ⟨2, ![16384, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x128, .f32⟩
  | .hbm, ⟨11, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelXaQ.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1x4096 : Shape := ⟨2, ![1, 4096]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x128, .f32⟩
  | .hbm, ⟨10, _⟩ => ⟨S1x4096, .f32⟩
  | .hbm, ⟨11, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1x4096, .f32⟩
  | .local _ .vmem, ⟨7, _⟩ => ⟨S1024x1024, .bf16⟩
  | .local _ .vmem, ⟨8, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceXaQIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelXaKv.lean ====
abbrev S1024x4096 : Shape := ⟨2, ![1024, 4096]⟩
abbrev S4096x8192 : Shape := ⟨2, ![4096, 8192]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S4096x8192, .bf16⟩
  | .hbm, ⟨3, _⟩ => ⟨S1024x8192, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXaKvIdeal.lean ====
abbrev S1024x4096 : Shape := ⟨2, ![1024, 4096]⟩
abbrev S4096x8192 : Shape := ⟨2, ![4096, 8192]⟩
abbrev S1024x8192 : Shape := ⟨2, ![1024, 8192]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S1024x4096, .f32⟩
  | .hbm, ⟨3, _⟩ => ⟨S1024x8192, .f32⟩
  | .hbm, ⟨4, _⟩ => ⟨S1024x8192, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNormIn.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelNormInIdeal.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormInIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelNormMem.lean ====
abbrev S1024x4096 : Shape := ⟨2, ![1024, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S1x4096, .f32⟩
  | .hbm, ⟨3, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormMemIdeal.lean ====
abbrev S1024x4096 : Shape := ⟨2, ![1024, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S1024x4096, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .f32⟩
  | .hbm, ⟨15, _⟩ => ⟨S1x4096, .f32⟩
  | .hbm, ⟨16, _⟩ => ⟨S1024x4096, .f32⟩
  | .hbm, ⟨17, _⟩ => ⟨S1024x4096, .f32⟩
  | .hbm, ⟨18, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelNorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelXattn.lean ====
abbrev S16384x4096 : Shape := ⟨2, ![16384, 4096]⟩
abbrev S1024x8192 : Shape := ⟨2, ![1024, 8192]⟩
abbrev S512x4096 : Shape := ⟨2, ![512, 4096]⟩
abbrev S256x8192 : Shape := ⟨2, ![256, 8192]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1024x8192, .bf16⟩
  | .hbm, ⟨2, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S256x8192, .bf16⟩
  | .local _ .vmem, ⟨3, _⟩ => ⟨S256x8192, .bf16⟩
  | .local _ .vmem, ⟨4, _⟩ => ⟨S512x4096, .bf16⟩
  | .local _ .vmem, ⟨5, _⟩ => ⟨S512x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXattnIdeal.lean ====
abbrev S16384x4096 : Shape := ⟨2, ![16384, 4096]⟩
abbrev S1024x8192 : Shape := ⟨2, ![1024, 8192]⟩
abbrev S4x4096x4x1024 : Shape := ⟨4, ![4, 4096, 4, 1024]⟩
abbrev S1024x4096 : Shape := ⟨2, ![1024, 4096]⟩
abbrev S4x256x4x1024 : Shape := ⟨4, ![4, 256, 4, 1024]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x1024x4096 : Shape := ⟨4, ![4, 4, 1024, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x8192, .bf16⟩
  | .hbm, ⟨2, _⟩ => ⟨S16384x4096, .f32⟩
  | .hbm, ⟨3, _⟩ => ⟨S4x4096x4x1024, .f32⟩
  | .hbm, ⟨4, _⟩ => ⟨S1024x8192, .f32⟩
  | .hbm, ⟨5, _⟩ => ⟨S1024x4096, .f32⟩
  | .hbm, ⟨6, _⟩ => ⟨S1024x4096, .f32⟩
  | .hbm, ⟨7, _⟩ => ⟨S4x256x4x1024, .f32⟩
  | .hbm, ⟨8, _⟩ => ⟨S4x256x4x1024, .f32⟩
  | .hbm, ⟨9, _⟩ => ⟨S4x4x4096x256, .f32⟩
  | .hbm, ⟨10, _⟩ => ⟨S_, .f32⟩
  | .hbm, ⟨11, _⟩ => ⟨S4x4x4096x256, .f32⟩
  | .hbm, ⟨12, _⟩ => ⟨S4x4x4096x256, .f32⟩
  | .hbm, ⟨13, _⟩ => ⟨S_, .f32⟩
  | .hbm, ⟨14, _⟩ => ⟨S4x4x4096, .f32⟩
  | .hbm, ⟨15, _⟩ => ⟨S_, .f32⟩
  | .hbm, ⟨16, _⟩ => ⟨S4x4x4096, .f32⟩
  | .hbm, ⟨17, _⟩ => ⟨S4x4x4096, .f32⟩
  | .hbm, ⟨18, _⟩ => ⟨S4x4x4096x1, .f32⟩
  | .hbm, ⟨19, _⟩ => ⟨S4x4x4096x256, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S4x4x4096x1, .f32⟩
  | .hbm, ⟨25, _⟩ => ⟨S4x4x4096x256, .f32⟩
  | .hbm, ⟨26, _⟩ => ⟨S4x4x4096x256, .f32⟩
  | .hbm, ⟨27, _⟩ => ⟨S4x4x1024x4096, .f32⟩
  | .hbm, ⟨28, _⟩ => ⟨S4x4096x4x1024, .f32⟩
  | .hbm, ⟨29, _⟩ => ⟨S16384x4096, .f32⟩
  | .hbm, ⟨30, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Reals.lean ====
/- Facts about the extended reals that several of the calls share: the sigmoid written with a hyperbolic tangent, and
   a nonnegative finite factor taken out of a sum. -/
module

public import Idealize.ShloMosaic.PureOps.Ideal
public import Mathlib.Analysis.SpecialFunctions.Trigonometric.DerivHyp

@[expose] public section

noncomputable section

namespace Cert.Proof.Reals

open Idealize.ShloMosaic

/-- The word of one half. -/
theorem half : Ideal.ofBits FTy.f32 1056964608#32 = ((1 / 2 : ℝ) : EReal) := by
  show Ideal.ofBits FTy.f32 0x3F000000#32 = _
  simp [Ideal.ofBits, Ideal.ieee, -EReal.coe_mul]; norm_num

/-- Over the reals, `1/2 + 1/2 tanh (x/2)` is the sigmoid. -/
theorem sigmoid_real (x : ℝ) : 1 / 2 + 1 / 2 * Real.tanh (1 / 2 * x) = (1 + Real.exp (-x))⁻¹ := by
  obtain ⟨y, rfl⟩ : ∃ y, x = 2 * y := ⟨x / 2, by ring⟩
  rw [show 1 / 2 * (2 * y) = y by ring, Real.tanh_eq_sinh_div_cosh, Real.sinh_eq, Real.cosh_eq,
    show -(2 * y) = -y + -y by ring, Real.exp_add, Real.exp_neg]
  have p := Real.exp_pos y
  have h2 : 1 + (Real.exp y)⁻¹ * (Real.exp y)⁻¹ ≠ 0 := by positivity
  have h1 : Real.exp y + (Real.exp y)⁻¹ ≠ 0 := by positivity
  field_simp
  ring

/-- The same over the extended reals, at the infinities too. -/
theorem sigmoid (x : EReal) :
    Ideal.ofBits FTy.f32 1056964608#32 + Ideal.ofBits FTy.f32 1056964608#32 * Ideal.tanh (Ideal.ofBits FTy.f32 1056964608#32 * x)
      = Ideal.div 1 (1 + Ideal.exp (-x)) := by
  rw [half]
  have hp : (0 : ℝ) < 1 / 2 := by norm_num
  induction x using EReal.rec with
  | bot =>
    rw [EReal.coe_mul_bot_of_pos hp]
    rw [Ideal.tanh_bot, EReal.neg_bot, Ideal.exp_top, show (1 : EReal) + ⊤ = ⊤ from rfl, ← EReal.coe_one, ← EReal.coe_neg,
      ← EReal.coe_mul, ← EReal.coe_add, Ideal.div, if_neg (by simp), EReal.inv_top, mul_zero]
    norm_num
  | top =>
    rw [EReal.coe_mul_top_of_pos hp, Ideal.tanh_top, EReal.neg_top, Ideal.exp_bot, add_zero, ← EReal.coe_one,
      Ideal.div_coe one_ne_zero, ← EReal.coe_mul, ← EReal.coe_mul, ← EReal.coe_add]
    norm_num
  | coe r =>
    rw [← EReal.coe_mul, Ideal.tanh_coe, ← EReal.coe_mul, ← EReal.coe_add, sigmoid_real]
    rw [← EReal.coe_neg, Ideal.exp_coe, ← EReal.coe_one, ← EReal.coe_add, Ideal.div_coe (by positivity), ← EReal.coe_mul]
    norm_num

/-- A real times its sigmoid, as half of it and half of it times a hyperbolic tangent. -/
theorem silu (r : ℝ) :
    Ideal.ofBits FTy.f32 1056964608#32 * (r : EReal)
        + Ideal.ofBits FTy.f32 1056964608#32 * (r : EReal) * Ideal.tanh (Ideal.ofBits FTy.f32 1056964608#32 * (r : EReal))
      = (r : EReal) * Ideal.div 1 (1 + Ideal.exp (-(r : EReal))) := by
  rw [← sigmoid, half, ← EReal.coe_mul, Ideal.tanh_coe, ← EReal.coe_mul, ← EReal.coe_mul, ← EReal.coe_add, ← EReal.coe_add,
    ← EReal.coe_mul]
  exact congrArg _ (by ring)

/-- A nonnegative finite factor goes into a sum of extended reals. -/
theorem sum_mul {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A square is not negative. -/
theorem mul_self_nonneg (x : EReal) : 0 ≤ x * x := by
  rcases le_total 0 x with h | h
  · exact mul_nonneg h h
  · have := mul_nonneg (EReal.neg_nonneg.mpr h) (EReal.neg_nonneg.mpr h)
    rwa [neg_mul_neg] at this

/-- The reciprocal root of a positive extended real is a nonnegative real. -/
theorem rsqrt_pos (x : EReal) (h : 0 < x) : ∃ r : ℝ, 0 ≤ r ∧ Ideal.rsqrt x = (r : EReal) := by
  induction x using EReal.rec with
  | bot => simp at h
  | top => exact ⟨0, le_refl 0, rfl⟩
  | coe r =>
    have hr : 0 < r := EReal.coe_pos.mp h
    refine ⟨(Real.sqrt r)⁻¹, by positivity, ?_⟩
    rw [Ideal.rsqrt_coe, if_neg (not_lt.mpr hr.le), if_neg hr.ne']

/-- The word of one over 4096, and that of 4096. -/
theorem inv_width : Ideal.ofBits FTy.f32 0x39800000#32 = ((1 / 4096 : ℝ) : EReal) := by
  simp [Ideal.ofBits, Ideal.ieee, -EReal.coe_mul]; norm_num

theorem width : Ideal.ofBits FTy.f32 0x45800000#32 = ((4096 : ℝ) : EReal) := by
  simp [Ideal.ofBits, Ideal.ieee, -EReal.coe_mul]; norm_num

/-- The word that stands for the norm's small constant is positive. -/
theorem eps_pos : 0 < Ideal.ofBits FTy.f32 0x358637BD#32 := by
  simp [Ideal.ofBits, Ideal.ieee, -EReal.coe_mul]

/-- The factor of a row of the norm: the mean of the squares as a product and as a quotient, and it is a nonnegative
    real. -/
theorem row_factor {ι : Type} (s : Finset ι) (f : ι → EReal) :
    ∃ r : ℝ, 0 ≤ r ∧ Ideal.rsqrt ((∑ k ∈ s, f k * f k) * Ideal.ofBits FTy.f32 0x39800000#32 + Ideal.ofBits FTy.f32 0x358637BD#32) = (r : EReal)
      ∧ Ideal.rsqrt (Ideal.div (∑ k ∈ s, f k * f k) (Ideal.ofBits FTy.f32 0x45800000#32) + Ideal.ofBits FTy.f32 0x358637BD#32) = (r : EReal) := by
  obtain ⟨r, h0, h1⟩ := rsqrt_pos ((∑ k ∈ s, f k * f k) * Ideal.ofBits FTy.f32 0x39800000#32 + Ideal.ofBits FTy.f32 0x358637BD#32)
    (lt_of_lt_of_le eps_pos (le_add_of_nonneg_left (mul_nonneg (Finset.sum_nonneg fun k _ => mul_self_nonneg _)
      (by rw [inv_width]; exact EReal.coe_nonneg.mpr (by norm_num)))))
  refine ⟨r, h0, h1, ?_⟩
  rw [width, Ideal.div_coe (by norm_num), ← inv_width, h1]

/-- The norm's factor of a row after the product with the weights, or before it. -/
theorem norm_product {n : ℕ} (x x' g g' w w' : Fin n → EReal) (q : EReal) (hq : q = ∑ k, x k * x k)
    (hx : ∀ k, x k = x' k) (hg : ∀ k, g k = g' k) (hw : ∀ k, w k = w' k) :
    (∑ k, x k * g k * w k) * Ideal.rsqrt (q * Ideal.ofBits FTy.f32 964689920#32 + Ideal.ofBits FTy.f32 897988541#32)
      = ∑ k, x' k * Ideal.rsqrt (Ideal.div (∑ k, x' k * x' k) (Ideal.ofBits FTy.f32 1166016512#32) + Ideal.ofBits FTy.f32 897988541#32)
          * g' k * w' k := by
  obtain rfl := funext hx
  obtain rfl := funext hg
  obtain rfl := funext hw
  obtain ⟨r, h0, hk, hr⟩ := row_factor Finset.univ x
  have hk' : Ideal.rsqrt (q * Ideal.ofBits FTy.f32 964689920#32 + Ideal.ofBits FTy.f32 897988541#32) = (r : EReal) := by
    rw [hq]; exact hk
  have hr' : Ideal.rsqrt (Ideal.div (∑ k, x k * x k) (Ideal.ofBits FTy.f32 1166016512#32) + Ideal.ofBits FTy.f32 897988541#32)
    = (r : EReal) := hr
  rw [hk', hr', sum_mul _ _ r h0]
  exact Finset.sum_congr rfl fun k _ => by rw [mul_assoc (x k) (r : EReal), mul_comm (r : EReal), ← mul_assoc, mul_right_comm]

/-- The sum of products of reals is a real. -/
theorem real_sum {n : ℕ} (x g w : Fin n → EReal) (r : ℝ) (hx : ∀ k, ∃ a : ℝ, x k = (a : EReal)) (hg : ∀ k, ∃ a : ℝ, g k = (a : EReal))
    (hw : ∀ k, ∃ a : ℝ, w k = (a : EReal)) : ∃ a : ℝ, ∑ k, x k * (r : EReal) * g k * w k = (a : EReal) := by
  refine Finset.sum_induction _ (fun z : EReal => ∃ a : ℝ, z = (a : EReal)) ?_ ⟨0, EReal.coe_zero.symm⟩ fun k _ => ?_
  · rintro _ _ ⟨a, rfl⟩ ⟨b, rfl⟩
    exact ⟨a + b, (EReal.coe_add a b).symm⟩
  · obtain ⟨a, ha⟩ := hx k
    obtain ⟨b, hb⟩ := hg k
    obtain ⟨d, hd⟩ := hw k
    exact ⟨a * r * b * d, by rw [ha, hb, hd, EReal.coe_mul, EReal.coe_mul, EReal.coe_mul]⟩

/-- The gated product of a normed row: the norm's factor after the products or before them, the gate in either form. -/
theorem gated_product {n : ℕ} (x x' g g' w w' v v' : Fin n → EReal) (q : EReal) (hq : q = ∑ k, x k * x k)
    (hx : ∀ k, x k = x' k) (hg : ∀ k, g k = g' k) (hw : ∀ k, w k = w' k) (hv : ∀ k, v k = v' k)
    (fx : ∀ k, ∃ a : ℝ, x' k = (a : EReal)) (fg : ∀ k, ∃ a : ℝ, g' k = (a : EReal)) (fw : ∀ k, ∃ a : ℝ, w' k = (a : EReal)) :
    (Ideal.ofBits FTy.f32 1056964608#32 * ((∑ k, x k * g k * w k) * Ideal.rsqrt (q * Ideal.ofBits FTy.f32 964689920#32 + Ideal.ofBits FTy.f32 897988541#32))
      + Ideal.ofBits FTy.f32 1056964608#32 * ((∑ k, x k * g k * w k) * Ideal.rsqrt (q * Ideal.ofBits FTy.f32 964689920#32 + Ideal.ofBits FTy.f32 897988541#32))
        * Ideal.tanh (Ideal.ofBits FTy.f32 1056964608#32 * ((∑ k, x k * g k * w k) * Ideal.rsqrt (q * Ideal.ofBits FTy.f32 964689920#32 + Ideal.ofBits FTy.f32 897988541#32))))
      * ((∑ k, x k * g k * v k) * Ideal.rsqrt (q * Ideal.ofBits FTy.f32 964689920#32 + Ideal.ofBits FTy.f32 897988541#32))
    = (∑ k, x' k * Ideal.rsqrt (Ideal.div (∑ k, x' k * x' k) (Ideal.ofBits FTy.f32 1166016512#32) + Ideal.ofBits FTy.f32 897988541#32) * g' k * w' k)
      * Ideal.div 1 (1 + Ideal.exp (-∑ k, x' k * Ideal.rsqrt (Ideal.div (∑ k, x' k * x' k) (Ideal.ofBits FTy.f32 1166016512#32) + Ideal.ofBits FTy.f32 897988541#32) * g' k * w' k))
      * ∑ k, x' k * Ideal.rsqrt (Ideal.div (∑ k, x' k * x' k) (Ideal.ofBits FTy.f32 1166016512#32) + Ideal.ofBits FTy.f32 897988541#32) * g' k * v' k := by
  rw [norm_product x x' g g' w w' q hq hx hg hw, norm_product x x' g g' v v' q hq hx hg hv]
  obtain ⟨r, h0, hk, hr⟩ := row_factor Finset.univ x'
  have hr' : Ideal.rsqrt (Ideal.div (∑ k, x' k * x' k) (Ideal.ofBits FTy.f32 1166016512#32) + Ideal.ofBits FTy.f32 897988541#32)
    = (r : EReal) := hr
  rw [hr']
  obtain ⟨a, ha⟩ := real_sum x' g' w' r fx fg fw
  rw [ha, silu]

/-- A word that says the absolute value is below infinity says that the number is a real. -/
theorem real_of_lt (x : EReal) :
    BitVec.ofBool (decide (FloatOps.absf (F := Ideal) (φ := .f32) x < Ideal.ofBits FTy.f32 2139095040#32)) = 1#1 → ∃ r : ℝ, x = (r : EReal) := by
  intro h
  have ht : Ideal.ofBits FTy.f32 2139095040#32 = ⊤ := by simp [Ideal.ofBits, Ideal.ieee]
  rw [ht] at h
  induction x using EReal.rec with
  | bot => exact absurd h (by simp [FloatOps.absf])
  | top => exact absurd h (by simp [FloatOps.absf])
  | coe r => exact ⟨r, rfl⟩

end Cert.Proof.Reals

end
-- ==== Proof.Swiglu.lean ====
/- The gated product of the channel mixer: the norm, the two products and the gate. -/
module

public import proofs.«01_k».proof.Defs
public import proofs.«01_k».proof.Proof.Gen.KernelSwigluIdeal.Frame
public import proofs.«01_k».proof.Proof.Gen.ReferenceSwigluIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.Swiglu

open Cert.KernelSwigluIdeal Cert.KernelSwigluIdeal.Gen
open Idealize.ShloMosaic Idealize.ShloMosaic.TcCoe Idealize.SL.Sem

/-- The windows' block indices at grid point `t`. -/
theorem idx : ∀ t : Fin cfg0.N, win0_0.index t = ![t.val / 43, 0] ∧ win0_1.index t = ![0, t.val % 43]
    ∧ win0_2.index t = ![0, t.val % 43 + 43] ∧ win0_3.index t = ![t.val / 43, 0] ∧ win0_4.index t = ![0, 0]
    ∧ win0_5.index t = ![t.val / 43, t.val % 43] :=
  (by decide +kernel : ∀ t : Fin grid0.N, _)

/-- The shape facts the precondition states. -/
instance facts_pre : Cert.Pre_finite_swiglu.Facts where
  bcast_S_S16384x4096 := by decide
  bcast_S_S4096x22016 := by decide
  bcast_S_S4096 := by decide

variable (m : (ℓ : Loc nD τ sig) → Buf (Elt Ideal) ℓ)

/-- What the precondition says of the rows, the weights and the gains at one index. -/
theorem finite (c : Dev nD) (h : Cert.Pre_KernelSwigluIdeal_finite_swiglu m) :
    (∀ i k, ∃ r : ℝ, m ((c : Thread nD τ).loc main_arg0) (ix2 i k) = (r : EReal))
    ∧ (∀ i k, ∃ r : ℝ, m ((c : Thread nD τ).loc main_arg1) (ix2 i k) = (r : EReal))
    ∧ (∀ k, ∃ r : ℝ, m ((c : Thread nD τ).loc main_arg2) (ix1 k) = (r : EReal)) := by
  obtain ⟨h0, h1, h2⟩ := h c
  refine ⟨fun i k => ?_, fun i k => ?_, fun k => ?_⟩
  · have e := congrFun h0 (ix2 i k)
    revert e
    pointwise [Cert.Pre_finite_swiglu.fn]
    exact Reals.real_of_lt _
  · have e := congrFun h1 (ix2 i k)
    revert e
    pointwise [Cert.Pre_finite_swiglu.fn]
    exact Reals.real_of_lt _
  · have e := congrFun h2 (ix1 k)
    revert e
    pointwise [Cert.Pre_finite_swiglu.fn]
    exact Reals.real_of_lt _

theorem algebraic : Cert.algebraic_KernelSwigluIdeal_ReferenceSwigluIdeal_pre_finite_swiglu := by
  pair_intro
  · run_from Cert.KernelSwigluIdeal.Gen.run_main m g
  · run_from Cert.ReferenceSwigluIdeal.Value.run m' g'
    refine ((dats m 0 c).arrAt_eq_of_covers 5 _ (by decide +kernel) fun t _ y => ?_).symm
    blk_simp
    rw [after0_5]; frame_out
    pointwise [k0_pay1]
    obtain ⟨fx, fw, fg⟩ := finite m c hpre
    refine Reals.gated_product _ _ _ _ _ _ _ _ _ ?_ (fun k => ?_) (fun k => ?_) (fun k => ?_) (fun k => ?_)
      (fun k => fx _ _) (fun k => fg _) (fun k => fw _ _)
    · unfold iblk; blk_simp; entry_read; pointwise
      refine Fin.sum_fin_congr fun k => congrArg₂ (fun a b : EReal => a * b) ?_ ?_ <;> blk_ext [idx t]
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]

end Cert.Proof.Swiglu

end
-- ==== Proof.Gate.lean ====
/- The gate projection that the state-space scan's call carries: its second result. -/
module

public import proofs.«01_k».proof.Defs
public import proofs.«01_k».proof.Proof.Gen.KernelGateIdeal.Frame
public import proofs.«01_k».proof.Proof.Gen.ReferenceGateIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.Gate

open Cert.KernelGateIdeal Cert.KernelGateIdeal.Gen
open Idealize.ShloMosaic Idealize.ShloMosaic.TcCoe Idealize.SL.Sem

/-- The block indices of the windows of the rows, the weights and the gate at grid point `t`. -/
theorem idx : ∀ t : Fin cfg0.N, win0_10.index t = ![t.val / 16, 0] ∧ win0_11.index t = ![t.val % 16 + 24, 0]
    ∧ win0_13.index t = ![t.val / 16, t.val % 16] :=
  (by decide +kernel : ∀ t : Fin grid0.N, _)

variable (m : (ℓ : Loc nD τ sig) → Buf (Elt Ideal) ℓ)

/-- The block of the transposed weights at point `t`, at one index: the gate's columns of the combined weights. -/
theorem weights (c : Dev nD) (t : Fin cfg0.N) (a : Fin 512) (k : Fin 4096) :
    iblk m c 11 t (ix2 a k) = m ((c : Thread nD τ).loc main_arg10) (ix2 k ⟨22592 + ((t.val % 16) * 512 + a.val), by omega⟩) := by
  unfold iblk V
  blk_simp
  simp only [hostOps0, hostOps0_1, hostOps0_2, hostOps0_3, hostOps0_4, hostOps0_5, hostOps0_6, List.flatten_cons,
    List.flatten_nil, List.append_nil, List.cons_append, List.nil_append]
  entry_read
  pointwise
  blk_ext [idx t]

theorem algebraic : Cert.algebraic_KernelGateIdeal_ReferenceGateIdeal := by
  pair_intro
  · run_from Cert.KernelGateIdeal.Gen.unchanged m g & Cert.KernelGateIdeal.Gen.run_main m g
  · run_from Cert.ReferenceGateIdeal.Value.run m' g'
    refine ((dats m 0 c).arrAt_eq_of_covers 13 _ (by decide +kernel) fun t _ y => ?_).symm
    blk_simp
    rw [after0_13]
    by_cases h : t.val % 64 = 0
    · rw [outsAt0_A m c t h]; frame_out
      clear h
      canon_tiles x h
      all_goals
        pointwise [k0_pay95, k0_pay21, k0_pay22]
        refine Fin.sum_fin_congr fun k => congrArg₂ (fun a b : EReal => a * b) ?_ ((weights m c t _ k).trans ?_)
        · blk_ext [iblk, V, idx t]
        · blk_ext [idx t]
    · rw [outsAt0_B m c t h]; frame_out
      clear h
      canon_tiles x h
      all_goals
        pointwise [k0_pay95, k0_pay21, k0_pay22]
        refine Fin.sum_fin_congr fun k => congrArg₂ (fun a b : EReal => a * b) ?_ ((weights m c t _ k).trans ?_)
        · blk_ext [iblk, V, idx t]
        · blk_ext [idx t]

end Cert.Proof.Gate

end
-- ==== Proof.FfnOut.lean ====
/- The second product of the channel mixer, added to the residual. -/
module

public import proofs.«01_k».proof.Defs
public import proofs.«01_k».proof.Proof.Gen.KernelFfnOutIdeal.Frame
public import proofs.«01_k».proof.Proof.Gen.ReferenceFfnOutIdeal.Run
public import Idealize.ShloMosaic.Lib.Pipeline.ValueKit
public import Idealize.ShloMosaic.Lib.Claim

@[expose] public section

set_option maxRecDepth 16384

noncomputable section

namespace Cert.Proof.FfnOut

open Cert.KernelFfnOutIdeal Cert.KernelFfnOutIdeal.Gen
open Idealize.ShloMosaic Idealize.ShloMosaic.TcCoe Idealize.SL.Sem

/-- The windows' block indices at grid point `t`. -/
theorem idx : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

theorem algebraic : Cert.algebraic_KernelFfnOutIdeal_ReferenceFfnOutIdeal := by
  pair_intro
  · run_from Cert.KernelFfnOutIdeal.Gen.run_main m g
  · run_from Cert.ReferenceFfnOutIdeal.Value.run m' g'
    refine ((dats m 0 c).arrAt_eq_of_covers 3 _ (by decide +kernel) fun t _ y => ?_).symm
    blk_simp
    rw [after0_3]; unfold outsAt0; frame_out
    pointwise [k0_pay1]
    blk_point [iblk, V, idx t]

end Cert.Proof.FfnOut

end
-- ==== Proof.Qkv.lean ====
/- The projection to queries, keys and values: the blocks of the product by the transposed weights are the
   columns of the whole product. -/
module

public import proofs.«01_k».proof.Defs
public import proofs.«01_k».proof.Proof.Gen.KernelQkvIdeal.Frame
public import proofs.«01_k».proof.Proof.Gen.ReferenceQkvIdeal.Run
public import Idealize.ShloMosaic.Lib.Pipeline.ValueKit
public import Idealize.ShloMosaic.Lib.Claim

@[expose] public section

set_option maxRecDepth 16384

noncomputable section

namespace Cert.Proof.Qkv

open Cert.KernelQkvIdeal Cert.KernelQkvIdeal.Gen
open Idealize.ShloMosaic Idealize.ShloMosaic.TcCoe Idealize.SL.Sem

/-- Point `t` reads row block `t / 12` and weight block `t % 12`, and writes the block where they meet. -/
theorem idx : ∀ t : Fin cfg0.N, win0_0.index t = ![t.val / 12, 0] ∧ win0_1.index t = ![t.val % 12, 0]
    ∧ win0_2.index t = ![t.val / 12, t.val % 12] :=
  (by decide +kernel : ∀ t : Fin grid0.N, _)

theorem algebraic : Cert.algebraic_KernelQkvIdeal_ReferenceQkvIdeal := by
  pair_intro
  · run_from Cert.KernelQkvIdeal.Gen.run_main m g
  · run_from Cert.ReferenceQkvIdeal.Value.run m' g'
    refine ((dats m 0 c).arrAt_eq_of_covers 2 _ (by decide +kernel) fun t _ y => ?_).symm
    blk_simp
    rw [after0_2]; frame_out
    pointwise [k0_pay1]
    blk_point [iblk, V, idx t]

end Cert.Proof.Qkv

end
-- ==== Proof.Z.lean ====
/- The projection to the gate branch `z` of the state-space mixer: its weights are a run of
   rows of the transposed matrix, that is, a run of columns of the matrix. -/
module

public import proofs.«01_k».proof.Defs
public import proofs.«01_k».proof.Proof.Gen.KernelZIdeal.Frame
public import proofs.«01_k».proof.Proof.Gen.ReferenceZIdeal.Run
public import Idealize.ShloMosaic.Lib.Pipeline.ValueKit
public import Idealize.ShloMosaic.Lib.Claim

@[expose] public section

set_option maxRecDepth 16384

noncomputable section

namespace Cert.Proof.Z

open Cert.KernelZIdeal Cert.KernelZIdeal.Gen
open Idealize.ShloMosaic Idealize.ShloMosaic.TcCoe Idealize.SL.Sem

/-- Point `t` reads row block `t / 4` and weight block `t % 4`, and writes the block where they meet. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

variable (m : (ℓ : Loc nD τ sig) → Buf (Elt Ideal) ℓ)

/-- The block of the transposed weights at point `t`, which lies inside their array, at one index. -/
theorem weights (c : Dev nD) (t : Fin cfg0.N) (a : Fin 1024) (k : Fin 4096) :
    X0_1 m c t (ix2 a k) = m ((c : Thread nD τ).loc main_arg1)
      (ix2 k ⟨(t.val % 4) * 1024 + a.val, by omega⟩) := by
  unfold X0_1 Pipeline.Window.fill
  rw [dif_pos (moved0_1 t _)]
  unfold iblk
  blk_simp
  entry_read
  pointwise
  blk_ext [idx t]

theorem algebraic : Cert.algebraic_KernelZIdeal_ReferenceZIdeal := by
  pair_intro
  · run_from Cert.KernelZIdeal.Gen.run_main m g
  · run_from Cert.ReferenceZIdeal.Value.run m' g'
    refine ((dats m 0 c).arrAt_eq_of_covers 2 _ (by decide +kernel) fun t _ y => ?_).symm
    blk_simp
    rw [after0_2]; unfold outsAt0; frame_out
    pointwise [k0_pay1]
    refine Fin.sum_fin_congr fun k => ?_
    refine congrArg₂ (fun a b : EReal => a * b) ?_ ((weights m c t (y 1) k).trans ?_)
    · blk_ext [iblk, V, idx t]
    · blk_ext [idx t]

end Cert.Proof.Z

end
-- ==== Proof.Xbc.lean ====
/- The projection to the convolved part of the state-space mixer: its weights are a run of
   rows of the transposed matrix, that is, a run of columns of the matrix. -/
module

public import proofs.«01_k».proof.Defs
public import proofs.«01_k».proof.Proof.Gen.KernelXbcIdeal.Frame
public import proofs.«01_k».proof.Proof.Gen.ReferenceXbcIdeal.Run
public import Idealize.ShloMosaic.Lib.Pipeline.ValueKit
public import Idealize.ShloMosaic.Lib.Claim

@[expose] public section

set_option maxRecDepth 16384

noncomputable section

namespace Cert.Proof.Xbc

open Cert.KernelXbcIdeal Cert.KernelXbcIdeal.Gen
open Idealize.ShloMosaic Idealize.ShloMosaic.TcCoe Idealize.SL.Sem

/-- Point `t` reads row block `t / 6` and weight block `t % 6 + 4`, and writes the block where they meet. -/
theorem idx : ∀ t : Fin cfg0.N, win0_0.index t = ![t.val / 6, 0] ∧ win0_1.index t = ![t.val % 6 + 4, 0]
    ∧ win0_2.index t = ![t.val / 6, t.val % 6] :=
  (by decide +kernel : ∀ t : Fin grid0.N, _)

variable (m : (ℓ : Loc nD τ sig) → Buf (Elt Ideal) ℓ)

/-- The block of the transposed weights at point `t`, which lies inside their array, at one index. -/
theorem weights (c : Dev nD) (t : Fin cfg0.N) (a : Fin 1024) (k : Fin 4096) :
    X0_1 m c t (ix2 a k) = m ((c : Thread nD τ).loc main_arg1)
      (ix2 k ⟨(t.val % 6 + 4) * 1024 + a.val, by omega⟩) := by
  unfold X0_1 Pipeline.Window.fill
  rw [dif_pos (moved0_1 t _)]
  unfold iblk
  blk_simp
  entry_read
  pointwise
  blk_ext [idx t]

theorem algebraic : Cert.algebraic_KernelXbcIdeal_ReferenceXbcIdeal := by
  pair_intro
  · run_from Cert.KernelXbcIdeal.Gen.run_main m g
  · run_from Cert.ReferenceXbcIdeal.Value.run m' g'
    refine ((dats m 0 c).arrAt_eq_of_covers 2 _ (by decide +kernel) fun t _ y => ?_).symm
    blk_simp
    rw [after0_2]; unfold outsAt0; frame_out
    pointwise [k0_pay1]
    refine Fin.sum_fin_congr fun k => ?_
    refine congrArg₂ (fun a b : EReal => a * b) ?_ ((weights m c t (y 1) k).trans ?_)
    · blk_ext [iblk, V, idx t]
    · blk_ext [idx t]

end Cert.Proof.Xbc

end
-- ==== Proof.Dt.lean ====
/- The projection to the step sizes of the state-space mixer, with the columns the version pads them by. -/
module

public import proofs.«01_k».proof.Defs
public import proofs.«01_k».proof.Proof.Gen.KernelDtIdeal.Frame
public import proofs.«01_k».proof.Proof.Gen.ReferenceDtIdeal.Run
public import Idealize.ShloMosaic.Lib.Pipeline.ValueKit
public import Idealize.ShloMosaic.Lib.Claim

@[expose] public section

set_option maxRecDepth 16384

noncomputable section

namespace Cert.Proof.Dt

open Cert.KernelDtIdeal Cert.KernelDtIdeal.Gen
open Idealize.ShloMosaic Idealize.ShloMosaic.TcCoe Idealize.SL.Sem

/-- Point `t` reads row block `t` and always the same weight block, and writes row block `t`. -/
theorem idx : ∀ t : Fin cfg0.N, win0_0.index t = ![t.val, 0] ∧ win0_1.index t = ![80, 0] ∧ win0_2.index t = ![t.val, 0] :=
  (by decide +kernel : ∀ t : Fin grid0.N, _)

variable (m : (ℓ : Loc nD τ sig) → Buf (Elt Ideal) ℓ)

/-- The block of the transposed weights at point `t`, which lies inside their array, at one index. -/
theorem weights (c : Dev nD) (t : Fin cfg0.N) (a : Fin 128) (k : Fin 4096) :
    X0_1 m c t (ix2 a k) = m ((c : Thread nD τ).loc main_arg1)
      (ix2 k ⟨10240 + a.val, by omega⟩) := by
  unfold X0_1 Pipeline.Window.fill
  rw [dif_pos (moved0_1 t _)]
  unfold iblk
  blk_simp
  entry_read
  pointwise
  blk_ext [idx t]

theorem algebraic : Cert.algebraic_KernelDtIdeal_ReferenceDtIdeal := by
  pair_intro
  · run_from Cert.KernelDtIdeal.Gen.run_main m g
  · run_from Cert.ReferenceDtIdeal.Value.run m' g'
    refine ((dats m 0 c).arrAt_eq_of_covers 2 _ (by decide +kernel) fun t _ y => ?_).symm
    blk_simp
    rw [after0_2]; unfold outsAt0; frame_out
    pointwise [k0_pay1]
    refine Fin.sum_fin_congr fun k => ?_
    refine congrArg₂ (fun a b : EReal => a * b) ?_ ((weights m c t (y 1) k).trans ?_)
    · blk_ext [iblk, V, idx t]
    · blk_ext [idx t]

end Cert.Proof.Dt

end
-- ==== Proof.Merge.lean ====
/- The merge of the two branches under their gates. -/
module

public import proofs.«01_k».proof.Defs
public import proofs.«01_k».proof.Proof.Gen.KernelMergeIdeal.Frame
public import proofs.«01_k».proof.Proof.Gen.ReferenceMergeIdeal.Run
public import Idealize.ShloMosaic.Lib.Pipeline.ValueKit
public import Idealize.ShloMosaic.Lib.Claim
public import proofs.«01_k».proof.Proof.Reals

@[expose] public section

set_option maxRecDepth 16384
set_option maxHeartbeats 2000000

noncomputable section

namespace Cert.Proof.Merge

open Cert.KernelMergeIdeal Cert.KernelMergeIdeal.Gen
open Idealize.ShloMosaic Idealize.ShloMosaic.TcCoe Idealize.SL.Sem

/-- The windows' block indices at grid point `t`. -/
theorem idx : ∀ t : Fin cfg0.N, win0_0.index t = ![t.val / 8, 0] ∧ win0_1.index t = ![t.val / 8, 0] ∧ win0_2.index t = ![0, t.val % 8] ∧ win0_3.index t = ![0, t.val % 8] ∧ win0_4.index t = ![t.val / 8, t.val % 8] ∧ win0_5.index t = ![t.val / 8, t.val % 8 + 8] ∧ win0_6.index t = ![0, t.val % 8] ∧ win0_7.index t = ![0, t.val % 8 + 8] ∧ win0_8.index t = ![t.val / 8, t.val % 8] :=
  (by decide +kernel : ∀ t : Fin grid0.N, _)

theorem algebraic : Cert.algebraic_KernelMergeIdeal_ReferenceMergeIdeal := by
  pair_intro
  · run_from Cert.KernelMergeIdeal.Gen.run_main m g
  · run_from Cert.ReferenceMergeIdeal.Value.run m' g'
    refine ((dats m 0 c).arrAt_eq_of_covers 8 _ (by decide +kernel) fun t _ y => ?_).symm
    blk_simp
    rw [after0_8]; frame_out
    pointwise [k0_pay1, k0_pay2, k0_pay3]
    rw [Reals.sigmoid, Reals.sigmoid]
    refine congrArg₂ (fun a b : EReal => a + b) (congrArg₂ (fun a b : EReal => a * b)
        (congrArg (fun a : EReal => Ideal.div 1 (1 + Ideal.exp (-a))) (congrArg₂ (fun a b : EReal => a + b) ?_ ?_))
        (Fin.sum_fin_congr fun k => congrArg₂ (fun a b : EReal => a * b) ?_ ?_))
      (congrArg₂ (fun a b : EReal => a * b)
        (congrArg (fun a : EReal => Ideal.div 1 (1 + Ideal.exp (-a))) (congrArg₂ (fun a b : EReal => a + b) ?_ ?_))
        (Fin.sum_fin_congr fun k => congrArg₂ (fun a b : EReal => a * b) ?_ ?_))
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]

end Cert.Proof.Merge

end
-- ==== Proof.Out.lean ====
/- The output projection with its residual, and the sums of squares of the rows that the next norm takes. -/
module

public import proofs.«01_k».proof.Defs
public import proofs.«01_k».proof.Proof.Gen.KernelOutIdeal.Frame
public import proofs.«01_k».proof.Proof.Gen.ReferenceOutIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.Out

open Cert.KernelOutIdeal Cert.KernelOutIdeal.Gen
open Idealize.ShloMosaic Idealize.ShloMosaic.TcCoe Idealize.SL.Sem

/-- The windows' block indices at grid point `t`. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8]
    ∧ win0_4.index t = ![t.val / 8, t.val % 8] ∧ win0_5.index t = ![t.val / 8, 0] :=
  (by decide +kernel : ∀ t : Fin grid0.N, _)

/-- The zero the row sums start from. -/
theorem zero_fill (j) : k0_pay3 (F := Ideal) j = 0 := by pointwise [k0_pay3]

/-- The row sums take the squares of the point's block of sums. -/
theorem add_squares (r a b acc) (j) : k0_pay4 (F := Ideal) r a b acc j
    = acc j + ∑ n : Fin 512, k0_pay1 (F := Ideal) r a b (ix2 (j 0) n) * k0_pay1 (F := Ideal) r a b (ix2 (j 0) n) := by
  pointwise [k0_pay4]

theorem algebraic : Cert.algebraic_KernelOutIdeal_ReferenceOutIdeal := by
  pair_intro
  · run_from Cert.KernelOutIdeal.Gen.run_main m g
  · refine (θ_run Cert.ReferenceOutIdeal.defs _ _).mono (fun r h c => ?_) (Cert.ReferenceOutIdeal.Value.run m' g')
    obtain ⟨h0, h1, h2, h3, h4, h5⟩ := h c
    obtain ⟨a0, a1, a2⟩ := hagree c
    rw [a0, a1, a2] at h0 h1 h2
    refine ⟨h0.trans ?_, h1.trans ?_, h2.trans ?_, h3, h4, h5⟩
    · refine ((dats m 0 c).arrAt_eq_of_covers 3 _ (by decide +kernel) fun t _ y => ?_).symm
      blk_simp
      rw [after0_3]
      by_cases h : t.val % 8 = 0
      · rw [outsAt0_A m c t h]; frame_out
        pointwise [k0_pay1]
        blk_point [iblk, V, idx t]
      · rw [outsAt0_B m c t h]; frame_out
        pointwise [k0_pay1]
        blk_point [iblk, V, idx t]
    · refine ((dats m 0 c).arrAt_eq_of_covers 4 _ (by decide +kernel) fun t _ y => ?_).symm
      blk_simp
      rw [after0_4]
      by_cases h : t.val % 8 = 0
      · rw [outsAt0_A m c t h]; frame_out
        pointwise [k0_pay1, k0_pay2]
        blk_point [iblk, V, idx t]
      · rw [outsAt0_B m c t h]; frame_out
        pointwise [k0_pay1, k0_pay2]
        blk_point [iblk, V, idx t]
    · refine ((dats m 0 c).arrAt_eq_of_covers 5 _ (by decide +kernel) fun t hf y => ?_).symm
      blk_simp
      rw [after0_5, Pipeline.eq_sum_fin_of_reset_step_apply_of_flush (fun n h => (outsAt0 m c n h).2.2) 8 (fun _ => 0) _
        (fun t h j => by rw [outsAt0_A m c t h]; frame_out; rw [add_squares, zero_fill])
        (fun t h j => by rw [outsAt0_B m c t h]; frame_out; rw [add_squares])
        t ((flush0_5 t).mp hf) _, zero_add]
      pointwise
      refine Fin.sum_mul_add_congr fun s k hl => ?_
      pointwise [k0_pay1]
      blk_point [iblk, V, idx t, idx ⟨_, Pipeline.run_point_lt_of_flush t ((flush0_5 t).mp hf) s⟩]

end Cert.Proof.Out

end
-- ==== Proof.XaQ.lean ====
/- The queries of the cross-attention: the norm is applied after the product, row by row. -/
module

public import proofs.«01_k».proof.Defs
public import proofs.«01_k».proof.Proof.Gen.KernelXaQIdeal.Frame
public import proofs.«01_k».proof.Proof.Gen.ReferenceXaQIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.XaQ

open Cert.KernelXaQIdeal Cert.KernelXaQIdeal.Gen
open Idealize.ShloMosaic Idealize.ShloMosaic.TcCoe Idealize.SL.Sem

/-- The windows' block indices at grid point `t`. -/
theorem idx : ∀ t : Fin cfg0.N, win0_0.index t = ![t.val / 4, 0] ∧ win0_1.index t = ![0, t.val % 4] ∧ win0_2.index t = ![t.val / 4, 0] ∧ win0_3.index t = ![0, 0] ∧ win0_4.index t = ![t.val / 4, t.val % 4] :=
  (by decide +kernel : ∀ t : Fin grid0.N, _)

theorem algebraic : Cert.algebraic_KernelXaQIdeal_ReferenceXaQIdeal := by
  pair_intro
  · run_from Cert.KernelXaQIdeal.Gen.run_main m g
  · run_from Cert.ReferenceXaQIdeal.Value.run m' g'
    refine ((dats m 0 c).arrAt_eq_of_covers 4 _ (by decide +kernel) fun t _ y => ?_).symm
    blk_simp
    rw [after0_4]; frame_out
    pointwise [k0_pay1]
    refine Reals.norm_product _ _ _ _ _ _ _ ?_ (fun k => ?_) (fun k => ?_) (fun k => ?_)
    · unfold iblk; blk_simp; entry_read; pointwise
      refine Fin.sum_fin_congr fun k => congrArg₂ (fun a b : EReal => a * b) ?_ ?_ <;> blk_ext [idx t]
    · unfold iblk; blk_simp; entry_read; pointwise; blk_ext [idx t]
    · unfold iblk; blk_simp; entry_read; pointwise; blk_ext [idx t]
    · unfold iblk; blk_simp; entry_read; pointwise; blk_ext [idx t]

end Cert.Proof.XaQ

end
-- ==== Proof.XaKv.lean ====
/- The keys and values of the cross-attention. -/
module

public import proofs.«01_k».proof.Defs
public import proofs.«01_k».proof.Proof.Gen.KernelXaKvIdeal.Frame
public import proofs.«01_k».proof.Proof.Gen.ReferenceXaKvIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.XaKv

open Cert.KernelXaKvIdeal Cert.KernelXaKvIdeal.Gen
open Idealize.ShloMosaic Idealize.ShloMosaic.TcCoe Idealize.SL.Sem

/-- The windows' block indices at grid point `t`. -/
theorem idx : ∀ t : Fin cfg0.N, win0_0.index t = ![0, 0] ∧ win0_1.index t = ![0, t.val] ∧ win0_2.index t = ![0, t.val] :=
  (by decide +kernel : ∀ t : Fin grid0.N, _)

theorem algebraic : Cert.algebraic_KernelXaKvIdeal_ReferenceXaKvIdeal := by
  pair_intro
  · run_from Cert.KernelXaKvIdeal.Gen.run_main m g
  · run_from Cert.ReferenceXaKvIdeal.Value.run m' g'
    refine ((dats m 0 c).arrAt_eq_of_covers 2 _ (by decide +kernel) fun t _ y => ?_).symm
    blk_simp
    rw [after0_2]; frame_out
    pointwise [k0_pay1]
    blk_point [iblk, V, idx t]

end Cert.Proof.XaKv

end
-- ==== Proof.NormIn.lean ====
/- The norm before the mixers. -/
module

public import proofs.«01_k».proof.Defs
public import proofs.«01_k».proof.Proof.Gen.KernelNormInIdeal.Frame
public import proofs.«01_k».proof.Proof.Gen.ReferenceNormInIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.NormIn

open Cert.KernelNormInIdeal Cert.KernelNormInIdeal.Gen
open Idealize.ShloMosaic Idealize.ShloMosaic.TcCoe Idealize.SL.Sem

/-- The windows' block indices at grid point `t`. -/
theorem idx : ∀ t : Fin cfg0.N, win0_0.index t = ![t.val, 0] ∧ win0_1.index t = ![0, 0] ∧ win0_2.index t = ![t.val, 0] :=
  (by decide +kernel : ∀ t : Fin grid0.N, _)

theorem algebraic : Cert.algebraic_KernelNormInIdeal_ReferenceNormInIdeal := by
  pair_intro
  · run_from Cert.KernelNormInIdeal.Gen.run_main m g
  · run_from Cert.ReferenceNormInIdeal.Value.run m' g'
    refine ((dats m 0 c).arrAt_eq_of_covers 2 _ (by decide +kernel) fun t _ y => ?_).symm
    blk_simp
    rw [after0_2]; frame_out
    pointwise [k0_pay1]
    refine congrArg₂ (fun a b : EReal => a * b) (congrArg₂ (fun a b : EReal => a * b) ?_
      (congrArg (fun a : EReal => Ideal.rsqrt (Ideal.div a (Ideal.ofBits FTy.f32 1166016512#32) + Ideal.ofBits FTy.f32 897988541#32))
        (Fin.sum_fin_congr fun k => congrArg₂ (fun a b : EReal => a * b) ?_ ?_))) ?_
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]

end Cert.Proof.NormIn

end
-- ==== Proof.NormMem.lean ====
/- The norm of the memory. -/
module

public import proofs.«01_k».proof.Defs
public import proofs.«01_k».proof.Proof.Gen.KernelNormMemIdeal.Frame
public import proofs.«01_k».proof.Proof.Gen.ReferenceNormMemIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.NormMem

open Cert.KernelNormMemIdeal Cert.KernelNormMemIdeal.Gen
open Idealize.ShloMosaic Idealize.ShloMosaic.TcCoe Idealize.SL.Sem

/-- The windows' block indices at grid point `t`. -/
theorem idx : ∀ t : Fin cfg0.N, win0_0.index t = ![t.val, 0] ∧ win0_1.index t = ![0, 0] ∧ win0_2.index t = ![t.val, 0] :=
  (by decide +kernel : ∀ t : Fin grid0.N, _)

theorem algebraic : Cert.algebraic_KernelNormMemIdeal_ReferenceNormMemIdeal := by
  pair_intro
  · run_from Cert.KernelNormMemIdeal.Gen.run_main m g
  · run_from Cert.ReferenceNormMemIdeal.Value.run m' g'
    refine ((dats m 0 c).arrAt_eq_of_covers 2 _ (by decide +kernel) fun t _ y => ?_).symm
    blk_simp
    rw [after0_2]; frame_out
    pointwise [k0_pay1]
    refine congrArg₂ (fun a b : EReal => a * b) (congrArg₂ (fun a b : EReal => a * b) ?_
      (congrArg (fun a : EReal => Ideal.rsqrt (Ideal.div a (Ideal.ofBits FTy.f32 1166016512#32) + Ideal.ofBits FTy.f32 897988541#32))
        (Fin.sum_fin_congr fun k => congrArg₂ (fun a b : EReal => a * b) ?_ ?_))) ?_
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]

end Cert.Proof.NormMem

end
-- ==== Proof.Norm.lean ====
/- The last norm. -/
module

public import proofs.«01_k».proof.Defs
public import proofs.«01_k».proof.Proof.Gen.KernelNormIdeal.Frame
public import proofs.«01_k».proof.Proof.Gen.ReferenceNormIdeal.Run
public import Idealize.ShloMosaic.Lib.Pipeline.ValueKit
public import Idealize.ShloMosaic.Lib.Claim
public import proofs.«01_k».proof.Proof.Reals

@[expose] public section

set_option maxRecDepth 16384
set_option maxHeartbeats 1000000

noncomputable section

namespace Cert.Proof.Norm

open Cert.KernelNormIdeal Cert.KernelNormIdeal.Gen
open Idealize.ShloMosaic Idealize.ShloMosaic.TcCoe Idealize.SL.Sem

/-- The windows' block indices at grid point `t`. -/
theorem idx : ∀ t : Fin cfg0.N, win0_0.index t = ![t.val, 0] ∧ win0_1.index t = ![0, 0] ∧ win0_2.index t = ![t.val, 0] :=
  (by decide +kernel : ∀ t : Fin grid0.N, _)

theorem algebraic : Cert.algebraic_KernelNormIdeal_ReferenceNormIdeal := by
  pair_intro
  · run_from Cert.KernelNormIdeal.Gen.run_main m g
  · run_from Cert.ReferenceNormIdeal.Value.run m' g'
    refine ((dats m 0 c).arrAt_eq_of_covers 2 _ (by decide +kernel) fun t _ y => ?_).symm
    blk_simp
    rw [after0_2]; frame_out
    pointwise [k0_pay1]
    refine congrArg₂ (fun a b : EReal => a * b) (congrArg₂ (fun a b : EReal => a * b) ?_
      (congrArg (fun a : EReal => Ideal.rsqrt (Ideal.div a (Ideal.ofBits FTy.f32 1166016512#32) + Ideal.ofBits FTy.f32 897988541#32))
        (Fin.sum_fin_congr fun k => congrArg₂ (fun a b : EReal => a * b) ?_ ?_))) ?_
    · unfold iblk; blk_simp; entry_read; pointwise; blk_ext [idx t]
    · unfold iblk; blk_simp; entry_read; pointwise; blk_ext [idx t]
    · unfold iblk; blk_simp; entry_read; pointwise; blk_ext [idx t]
    · unfold iblk; blk_simp; entry_read; pointwise; blk_ext [idx t]

end Cert.Proof.Norm

end
-- ==== Proof.XattnRef.lean ====
/- The reference of the attention over the memory, read one element at a time. -/
module

public import proofs.«01_k».proof.Defs
public import proofs.«01_k».proof.Proof.Gen.ReferenceXattnIdeal.Run
public import Idealize.ShloMosaic.Lib.Pipeline.ValueKit
public import Idealize.ShloMosaic.Lib.Claim

@[expose] public section

set_option maxRecDepth 16384
set_option maxHeartbeats 1000000

noncomputable section

namespace Cert.Proof.XattnRef

open Cert.ReferenceXattnIdeal Cert.ReferenceXattnIdeal.Gen
open Idealize.ShloMosaic Idealize.ShloMosaic.TcCoe Idealize.SL.Sem

/-- The value a maximum over keys starts from. -/
abbrev low : EReal := Ideal.ofBits .f32 0xFF800000#32

/-- The weight of key `j` before normalisation: the exponential of its score less the greatest score. -/
def weight (s : Fin 256 → EReal) (j : Fin 256) : EReal := Ideal.exp (s j - Finset.univ.fold max low s)

/-- One output of the attention: the values `v` averaged with the softmax of the scores `s`. -/
def att (s v : Fin 256 → EReal) : EReal := ∑ j, Ideal.div (weight s j) (∑ i, weight s i) * v j

/-- Scores of batch, head, row and key. -/
def scores (q : FVec Ideal S16384x4096 .bf16) (kv : FVec Ideal S1024x8192 .bf16) : FVec Ideal S4x4x4096x256 .f32 :=
  mulf (Host.dotGeneral dot_S4x4096x4x1024_S4x256x4x1024_S4x4x4096x256_3_3_1_1_02_02 none
      (shapeCast S4x4096x4x1024 (extf .f32 q bitsLt_bf16_f32) shapeCasts_S16384x4096_S4x4096x4x1024)
      (shapeCast S4x256x4x1024 (extractStridedSlice S1024x4096 ![0, 0] (extf .f32 kv bitsLt_bf16_f32)
        slices_S1024x8192_S1024x4096_0_0) shapeCasts_S1024x4096_S4x256x4x1024))
    (broadcastInDim S4x4x4096x256 ![] bcast_S_S4x4x4096x256 (constant S_ .f32 0x3D000000#32))

/-- A number for every batch, head and row, repeated over the keys. -/
def perRow (a : FVec Ideal S4x4x4096 .f32) : FVec Ideal S4x4x4096x256 .f32 :=
  broadcastInDim S4x4x4096x256 ![0, 1, 2, 3] bcast_S4x4x4096x1_S4x4x4096x256_0_1_2_3
    (broadcastInDim S4x4x4096x1 ![0, 1, 2] bcast_S4x4x4096_S4x4x4096x1_0_1_2 a)

/-- The greatest score of every row. -/
def top (s : FVec Ideal S4x4x4096x256 .f32) : FVec Ideal S4x4x4096 .f32 :=
  maximumf (broadcastInDim S4x4x4096 ![] bcast_S_S4x4x4096 (constant S_ .f32 0xFF800000#32))
    (Host.reduce FloatOps.maximumf s (constant S_ .f32 0xFF800000#32) reducesTo_S4x4x4096x256_S4x4x4096_d3 h_S_)

/-- The exponentials of the scores less the greatest in their row. -/
def shifted (s : FVec Ideal S4x4x4096x256 .f32) : FVec Ideal S4x4x4096x256 .f32 :=
  Host.exp (subf s (perRow (top s)))

/-- The softmax over the keys. -/
def soft (s : FVec Ideal S4x4x4096x256 .f32) : FVec Ideal S4x4x4096x256 .f32 :=
  Host.divf (shifted s) (perRow (Host.reduceAdd (shifted s) (constant S_ .f32 0x00000000#32)
    reducesTo_S4x4x4096x256_S4x4x4096_d3 h_S_))

/-- The values averaged with given weights. -/
def average (kv : FVec Ideal S1024x8192 .bf16) (p : FVec Ideal S4x4x4096x256 .f32) : FVec Ideal S16384x4096 .bf16 :=
  truncf .bf16 (shapeCast S16384x4096 (transpose S4x4096x4x1024 [0, 3, 1, 2]
    (Host.dotGeneral dot_S4x256x4x1024_S4x4x4096x256_S4x4x1024x4096_1_3_3_2_02_01 none
      (shapeCast S4x256x4x1024 (extractStridedSlice S1024x4096 ![0, 4096] (extf .f32 kv bitsLt_bf16_f32)
        slices_S1024x8192_S1024x4096_0_4096) shapeCasts_S1024x4096_S4x256x4x1024) p)
    transposes_S4x4x1024x4096_S4x4096x4x1024_0_3_1_2) shapeCasts_S4x4096x4x1024_S16384x4096) bitsLt_bf16_f32

theorem scores_at (q : FVec Ideal S16384x4096 .bf16) (kv : FVec Ideal S1024x8192 .bf16) (b h : Fin 4) (t : Fin 4096)
    (j : Fin 256) : scores q kv (ix4 b h t j)
      = (∑ d : Fin 1024, q (ix2 ⟨b.val * 4096 + t.val, by omega⟩ ⟨h.val * 1024 + d.val, by omega⟩)
          * kv (ix2 ⟨b.val * 256 + j.val, by omega⟩ ⟨h.val * 1024 + d.val, by omega⟩)) * Ideal.ofBits .f32 0x3D000000#32 := by
  unfold scores
  pointwise

theorem perRow_at (a : FVec Ideal S4x4x4096 .f32) (b h : Fin 4) (t : Fin 4096) (j : Fin 256) :
    perRow a (ix4 b h t j) = a (ix3 b h t) := by
  unfold perRow
  pointwise

/-- A maximum over the last of four axes, whatever their sizes, against the number it starts from. -/
theorem fold_at {n0 n1 n2 n3 : Nat} (w : BitVec 32) (v : FVec Ideal ⟨4, ![n0, n1, n2, n3]⟩ .f32)
    (hb : (⟨0, ![]⟩ : Shape).BroadcastsInDim ⟨3, ![n0, n1, n2]⟩ (![] : Fin 0 → Fin 3))
    (h : (⟨4, ![n0, n1, n2, n3]⟩ : Shape).ReducesTo [3] ⟨3, ![n0, n1, n2]⟩) (hu : 0 < (⟨0, ![]⟩ : Shape).numel)
    (a : Fin n0) (b : Fin n1) (d : Fin n2) :
    maximumf (broadcastInDim ⟨3, ![n0, n1, n2]⟩ ![] hb (constant (F := Ideal) ⟨0, ![]⟩ .f32 w))
        (Host.reduce FloatOps.maximumf v (constant (F := Ideal) ⟨0, ![]⟩ .f32 w) h hu) (ix3 a b d)
      = Finset.univ.fold max (Ideal.ofBits .f32 w) fun k => v (ix4 a b d k) := by
  simp only [pointwise]
  exact max_eq_right ((Finset.le_fold_max _).mpr (Or.inl le_rfl))

theorem top_at (s : FVec Ideal S4x4x4096x256 .f32) (b h : Fin 4) (t : Fin 4096) :
    top s (ix3 b h t) = Finset.univ.fold max low fun k => s (ix4 b h t k) :=
  fold_at 0xFF800000#32 s bcast_S_S4x4x4096 reducesTo_S4x4x4096x256_S4x4x4096_d3 h_S_ b h t

theorem shifted_at (s : FVec Ideal S4x4x4096x256 .f32) (b h : Fin 4) (t : Fin 4096) (j : Fin 256) :
    shifted s (ix4 b h t j) = weight (fun k => s (ix4 b h t k)) j := by
  unfold shifted weight
  pointwise [perRow_at, top_at]

theorem soft_at (s : FVec Ideal S4x4x4096x256 .f32) (b h : Fin 4) (t : Fin 4096) (j : Fin 256) :
    soft s (ix4 b h t j) = Ideal.div (weight (fun k => s (ix4 b h t k)) j) (∑ i, weight (fun k => s (ix4 b h t k)) i) := by
  unfold soft
  pointwise [perRow_at, shifted_at]

theorem average_at (kv : FVec Ideal S1024x8192 .bf16) (p : FVec Ideal S4x4x4096x256 .f32) (r : Fin 16384) (k : Fin 4096) :
    average kv p (ix2 r k) = ∑ j : Fin 256, kv (ix2 ⟨r.val / 4096 * 256 + j.val, by omega⟩ ⟨4096 + k.val, by omega⟩)
      * p (ix4 ⟨r.val / 4096, by omega⟩ ⟨k.val / 1024, by omega⟩ ⟨r.val % 4096, by omega⟩ j) := by
  unfold average
  pointwise

/-- One element of the reference's result. -/
theorem out_at (q : FVec Ideal S16384x4096 .bf16) (kv : FVec Ideal S1024x8192 .bf16) (r : Fin 16384) (k : Fin 4096) :
    average kv (soft (scores q kv)) (ix2 r k)
      = att (fun j => (∑ d : Fin 1024, q (ix2 r ⟨k.val / 1024 * 1024 + d.val, by omega⟩)
            * kv (ix2 ⟨r.val / 4096 * 256 + j.val, by omega⟩ ⟨k.val / 1024 * 1024 + d.val, by omega⟩)) * Ideal.ofBits .f32 0x3D000000#32)
          (fun j => kv (ix2 ⟨r.val / 4096 * 256 + j.val, by omega⟩ ⟨4096 + k.val, by omega⟩)) := by
  rw [average_at]
  refine Finset.sum_congr rfl fun j _ => ?_
  rw [soft_at, mul_comm]
  simp only [scores_at]
  have hr : ∀ (h : r.val / 4096 * 4096 + r.val % 4096 < 16384), (⟨r.val / 4096 * 4096 + r.val % 4096, h⟩ : Fin 16384) = r :=
    fun h => Fin.ext (by simp only; omega)
  simp only [hr]

/-- The same at any index. -/
theorem out_idx (q : FVec Ideal S16384x4096 .bf16) (kv : FVec Ideal S1024x8192 .bf16) (i : S16384x4096.Idx)
    (r : Fin 16384) (k : Fin 4096) (hr : i 0 = r) (hk : i 1 = k) : average kv (soft (scores q kv)) i
      = att (fun j => (∑ d : Fin 1024, q (ix2 r ⟨k.val / 1024 * 1024 + d.val, by omega⟩)
            * kv (ix2 ⟨r.val / 4096 * 256 + j.val, by omega⟩ ⟨k.val / 1024 * 1024 + d.val, by omega⟩)) * Ideal.ofBits .f32 0x3D000000#32)
          (fun j => kv (ix2 ⟨r.val / 4096 * 256 + j.val, by omega⟩ ⟨4096 + k.val, by omega⟩)) := by
  subst hr hk
  exact (congrArg _ (eq_ix2 i)).trans (out_at q kv (i 0) (i 1))

/-- The reference's run, its result in these terms. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = average (m ((c.tc : Thread nD τ).loc main_arg1))
          (soft (scores (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.ReferenceXattnIdeal.Value.run m ρ)

end Cert.Proof.XattnRef

end
-- ==== Proof.Xattn.lean ====
/- The attention over the memory: four heads of 1024 columns, 512 rows at a time. -/
module

public import proofs.«01_k».proof.Defs
public import proofs.«01_k».proof.Proof.Gen.KernelXattnIdeal.Frame
public import proofs.«01_k».proof.Proof.XattnRef
public import Idealize.ShloMosaic.Lib.Pipeline.ValueKit
public import Idealize.ShloMosaic.Lib.Claim

@[expose] public section

set_option maxRecDepth 16384
set_option maxHeartbeats 1000000

noncomputable section

namespace Cert.Proof.Xattn

open Cert.KernelXattnIdeal Cert.KernelXattnIdeal.Gen
open Idealize.ShloMosaic Idealize.ShloMosaic.TcCoe Idealize.SL.Sem

/-- The windows' block indices at grid point `t`. -/
theorem idx : ∀ t : Fin cfg0.N, win0_0.index t = ![t.val, 0] ∧ win0_1.index t = ![t.val / 8, 0] ∧ win0_2.index t = ![t.val, 0] :=
  (by decide +kernel : ∀ t : Fin grid0.N, _)

/-- One head: what the kernel stores for it is the attention of its queries over its keys and values. -/
theorem head_at (q : Vec Ideal S512x1024 .bf16) (k v : Vec Ideal S256x1024 .bf16) (x : S512x1024.Idx) :
    k0_pay2 q k v x = XattnRef.att (fun j => (∑ d : Fin 1024, q (ix2 (x 0) d) * k (ix2 j d)) * Ideal.ofBits .f32 0x3D000000#32)
      (fun j => v (ix2 j (x 1))) := by
  unfold XattnRef.att XattnRef.weight
  pointwise [k0_pay2]

/-- The other heads are the same function, cut at other places. -/
theorem head_1 (q : Vec Ideal S512x1024 .bf16) (k v : Vec Ideal S256x1024 .bf16) :
    k0_pay4 (k0_pay3 q k) v = k0_pay2 q k v := rfl
theorem head_2 (q : Vec Ideal S512x1024 .bf16) (k v : Vec Ideal S256x1024 .bf16) : k0_pay5 q k v = k0_pay2 q k v := rfl
theorem head_3 (q : Vec Ideal S512x1024 .bf16) (k v : Vec Ideal S256x1024 .bf16) :
    k0_pay1 (k0_pay6 q k) (k0_pay7 q k) v = k0_pay2 q k v := rfl

theorem algebraic : Cert.algebraic_KernelXattnIdeal_ReferenceXattnIdeal := by
  pair_intro
  · run_from Cert.KernelXattnIdeal.Gen.run_main m g
  · run_from Cert.Proof.XattnRef.run m' g'
    refine ((dats m 0 c).arrAt_eq_of_covers 2 _ (by decide +kernel) fun t _ y => ?_).symm
    blk_simp
    rw [after0_2]
    unfold out0_2
    clear hagree
    canon_tiles x h
    all_goals
      simp only [head_1, head_2, head_3]
      refine (head_at _ _ _ x).trans (Eq.trans ?_ (XattnRef.out_idx _ _ _ _ _ rfl rfl).symm)
      refine congrArg₂ XattnRef.att (funext fun j => congrArg (fun a : EReal => a * Ideal.ofBits .f32 0x3D000000#32)
        (Finset.sum_congr rfl fun d _ => congrArg₂ (fun a b : EReal => a * b) ?_ ?_)) (funext fun j => ?_)
      · pointwise; blk_ext [iblk, V, idx t]
      · pointwise; blk_ext [iblk, V, idx t]
      · pointwise; blk_ext [iblk, V, idx t]

end Cert.Proof.Xattn

end
-- ==== Proof.lean ====
/- The block's calls, one after the other: every call's frame and its reference's, and that over the reals the call
   computes what its reference says. The modules under Proof/ prove the value claims; this one puts them together. -/
module

public import proofs.«01_k».proof.Defs
public import proofs.«01_k».proof.Proof.Gen.KernelSwiglu.Frame
public import proofs.«01_k».proof.Proof.Gen.KernelGate.Frame
public import proofs.«01_k».proof.Proof.Gen.KernelFfnOut.Frame
public import proofs.«01_k».proof.Proof.Gen.KernelQkv.Frame
public import proofs.«01_k».proof.Proof.Gen.KernelZ.Frame
public import proofs.«01_k».proof.Proof.Gen.KernelXbc.Frame
public import proofs.«01_k».proof.Proof.Gen.KernelDt.Frame
public import proofs.«01_k».proof.Proof.Gen.KernelMerge.Frame
public import proofs.«01_k».proof.Proof.Gen.KernelOut.Frame
public import proofs.«01_k».proof.Proof.Gen.KernelXaQ.Frame
public import proofs.«01_k».proof.Proof.Gen.KernelXaKv.Frame
public import proofs.«01_k».proof.Proof.Gen.KernelNormIn.Frame
public import proofs.«01_k».proof.Proof.Gen.KernelNormMem.Frame
public import proofs.«01_k».proof.Proof.Gen.KernelNorm.Frame
public import proofs.«01_k».proof.Proof.Gen.KernelXattn.Frame
public import proofs.«01_k».proof.Proof.Swiglu
public import proofs.«01_k».proof.Proof.Gate
public import proofs.«01_k».proof.Proof.FfnOut
public import proofs.«01_k».proof.Proof.Qkv
public import proofs.«01_k».proof.Proof.Z
public import proofs.«01_k».proof.Proof.Xbc
public import proofs.«01_k».proof.Proof.Dt
public import proofs.«01_k».proof.Proof.Merge
public import proofs.«01_k».proof.Proof.Out
public import proofs.«01_k».proof.Proof.XaQ
public import proofs.«01_k».proof.Proof.XaKv
public import proofs.«01_k».proof.Proof.NormIn
public import proofs.«01_k».proof.Proof.NormMem
public import proofs.«01_k».proof.Proof.Norm
public import proofs.«01_k».proof.Proof.Xattn
public import Idealize.ShloMosaic.Lib.Claim

@[expose] public section

noncomputable section

namespace Cert.Proof

open Idealize.ShloMosaic Idealize.SL.Sem

theorem claim : Cert.Claim :=
  ⟨Cert.KernelSwiglu.Gen.facts, Cert.KernelSwigluIdeal.Gen.facts, Cert.ReferenceSwigluIdeal.Gen.facts,
    Cert.KernelGate.Gen.facts, Cert.KernelGateIdeal.Gen.facts, Cert.ReferenceGateIdeal.Gen.facts,
    Cert.KernelFfnOut.Gen.facts, Cert.KernelFfnOutIdeal.Gen.facts, Cert.ReferenceFfnOutIdeal.Gen.facts,
    Cert.KernelQkv.Gen.facts, Cert.KernelQkvIdeal.Gen.facts, Cert.ReferenceQkvIdeal.Gen.facts,
    Cert.KernelZ.Gen.facts, Cert.KernelZIdeal.Gen.facts, Cert.ReferenceZIdeal.Gen.facts,
    Cert.KernelXbc.Gen.facts, Cert.KernelXbcIdeal.Gen.facts, Cert.ReferenceXbcIdeal.Gen.facts,
    Cert.KernelDt.Gen.facts, Cert.KernelDtIdeal.Gen.facts, Cert.ReferenceDtIdeal.Gen.facts,
    Cert.KernelMerge.Gen.facts, Cert.KernelMergeIdeal.Gen.facts, Cert.ReferenceMergeIdeal.Gen.facts,
    Cert.KernelOut.Gen.facts, Cert.KernelOutIdeal.Gen.facts, Cert.ReferenceOutIdeal.Gen.facts,
    Cert.KernelXaQ.Gen.facts, Cert.KernelXaQIdeal.Gen.facts, Cert.ReferenceXaQIdeal.Gen.facts,
    Cert.KernelXaKv.Gen.facts, Cert.KernelXaKvIdeal.Gen.facts, Cert.ReferenceXaKvIdeal.Gen.facts,
    Cert.KernelNormIn.Gen.facts, Cert.KernelNormInIdeal.Gen.facts, Cert.ReferenceNormInIdeal.Gen.facts,
    Cert.KernelNormMem.Gen.facts, Cert.KernelNormMemIdeal.Gen.facts, Cert.ReferenceNormMemIdeal.Gen.facts,
    Cert.KernelNorm.Gen.facts, Cert.KernelNormIdeal.Gen.facts, Cert.ReferenceNormIdeal.Gen.facts,
    Cert.KernelXattn.Gen.facts, Cert.KernelXattnIdeal.Gen.facts, Cert.ReferenceXattnIdeal.Gen.facts,
    Swiglu.facts_pre,
    fun m ρ _ => Cert.KernelSwiglu.Gen.frame m ρ, fun m ρ _ => Cert.KernelSwigluIdeal.Gen.frame m ρ, fun m ρ _ => Cert.KernelSwigluIdeal.Gen.frame m ρ,
    fun m ρ _ => (θ_run Cert.ReferenceSwigluIdeal.defs _ _).mono
      (fun r h => ⟨fun c => (h c).2, sem_eq_zero_of_no_sems (by decide) r.2⟩) (Cert.ReferenceSwigluIdeal.Value.run m ρ),
    fun m ρ _ => (θ_run Cert.ReferenceSwigluIdeal.defs _ _).mono
      (fun r h => ⟨fun c => (h c).2, sem_eq_zero_of_no_sems (by decide) r.2⟩) (Cert.ReferenceSwigluIdeal.Value.run m ρ),
    fun m ρ _ => Cert.KernelGate.Gen.frame m ρ, fun m ρ _ => Cert.KernelGateIdeal.Gen.frame m ρ,
    fun m ρ _ => (θ_run Cert.ReferenceGateIdeal.defs _ _).mono
      (fun r h => ⟨fun c => (h c).2, sem_eq_zero_of_no_sems (by decide) r.2⟩) (Cert.ReferenceGateIdeal.Value.run m ρ),
    fun m ρ _ => Cert.KernelFfnOut.Gen.frame m ρ, fun m ρ _ => Cert.KernelFfnOutIdeal.Gen.frame m ρ,
    fun m ρ _ => (θ_run Cert.ReferenceFfnOutIdeal.defs _ _).mono
      (fun r h => ⟨fun c => (h c).2, sem_eq_zero_of_no_sems (by decide) r.2⟩) (Cert.ReferenceFfnOutIdeal.Value.run m ρ),
    fun m ρ _ => Cert.KernelQkv.Gen.frame m ρ, fun m ρ _ => Cert.KernelQkvIdeal.Gen.frame m ρ,
    fun m ρ _ => (θ_run Cert.ReferenceQkvIdeal.defs _ _).mono
      (fun r h => ⟨fun c => (h c).2, sem_eq_zero_of_no_sems (by decide) r.2⟩) (Cert.ReferenceQkvIdeal.Value.run m ρ),
    fun m ρ _ => Cert.KernelZ.Gen.frame m ρ, fun m ρ _ => Cert.KernelZIdeal.Gen.frame m ρ,
    fun m ρ _ => (θ_run Cert.ReferenceZIdeal.defs _ _).mono
      (fun r h => ⟨fun c => (h c).2, sem_eq_zero_of_no_sems (by decide) r.2⟩) (Cert.ReferenceZIdeal.Value.run m ρ),
    fun m ρ _ => Cert.KernelXbc.Gen.frame m ρ, fun m ρ _ => Cert.KernelXbcIdeal.Gen.frame m ρ,
    fun m ρ _ => (θ_run Cert.ReferenceXbcIdeal.defs _ _).mono
      (fun r h => ⟨fun c => (h c).2, sem_eq_zero_of_no_sems (by decide) r.2⟩) (Cert.ReferenceXbcIdeal.Value.run m ρ),
    fun m ρ _ => Cert.KernelDt.Gen.frame m ρ, fun m ρ _ => Cert.KernelDtIdeal.Gen.frame m ρ,
    fun m ρ _ => (θ_run Cert.ReferenceDtIdeal.defs _ _).mono
      (fun r h => ⟨fun c => (h c).2, sem_eq_zero_of_no_sems (by decide) r.2⟩) (Cert.ReferenceDtIdeal.Value.run m ρ),
    fun m ρ _ => Cert.KernelMerge.Gen.frame m ρ, fun m ρ _ => Cert.KernelMergeIdeal.Gen.frame m ρ,
    fun m ρ _ => (θ_run Cert.ReferenceMergeIdeal.defs _ _).mono
      (fun r h => ⟨fun c => (h c).2, sem_eq_zero_of_no_sems (by decide) r.2⟩) (Cert.ReferenceMergeIdeal.Value.run m ρ),
    fun m ρ _ => Cert.KernelOut.Gen.frame m ρ, fun m ρ _ => Cert.KernelOutIdeal.Gen.frame m ρ,
    fun m ρ _ => (θ_run Cert.ReferenceOutIdeal.defs _ _).mono
      (fun r h => ⟨fun c => (h c).2.2.2, sem_eq_zero_of_no_sems (by decide) r.2⟩) (Cert.ReferenceOutIdeal.Value.run m ρ),
    fun m ρ _ => Cert.KernelXaQ.Gen.frame m ρ, fun m ρ _ => Cert.KernelXaQIdeal.Gen.frame m ρ,
    fun m ρ _ => (θ_run Cert.ReferenceXaQIdeal.defs _ _).mono
      (fun r h => ⟨fun c => (h c).2, sem_eq_zero_of_no_sems (by decide) r.2⟩) (Cert.ReferenceXaQIdeal.Value.run m ρ),
    fun m ρ _ => Cert.KernelXaKv.Gen.frame m ρ, fun m ρ _ => Cert.KernelXaKvIdeal.Gen.frame m ρ,
    fun m ρ _ => (θ_run Cert.ReferenceXaKvIdeal.defs _ _).mono
      (fun r h => ⟨fun c => (h c).2, sem_eq_zero_of_no_sems (by decide) r.2⟩) (Cert.ReferenceXaKvIdeal.Value.run m ρ),
    fun m ρ _ => Cert.KernelNormIn.Gen.frame m ρ, fun m ρ _ => Cert.KernelNormInIdeal.Gen.frame m ρ,
    fun m ρ _ => (θ_run Cert.ReferenceNormInIdeal.defs _ _).mono
      (fun r h => ⟨fun c => (h c).2, sem_eq_zero_of_no_sems (by decide) r.2⟩) (Cert.ReferenceNormInIdeal.Value.run m ρ),
    fun m ρ _ => Cert.KernelNormMem.Gen.frame m ρ, fun m ρ _ => Cert.KernelNormMemIdeal.Gen.frame m ρ,
    fun m ρ _ => (θ_run Cert.ReferenceNormMemIdeal.defs _ _).mono
      (fun r h => ⟨fun c => (h c).2, sem_eq_zero_of_no_sems (by decide) r.2⟩) (Cert.ReferenceNormMemIdeal.Value.run m ρ),
    fun m ρ _ => Cert.KernelNorm.Gen.frame m ρ, fun m ρ _ => Cert.KernelNormIdeal.Gen.frame m ρ,
    fun m ρ _ => (θ_run Cert.ReferenceNormIdeal.defs _ _).mono
      (fun r h => ⟨fun c => (h c).2, sem_eq_zero_of_no_sems (by decide) r.2⟩) (Cert.ReferenceNormIdeal.Value.run m ρ),
    fun m ρ _ => Cert.KernelXattn.Gen.frame m ρ, fun m ρ _ => Cert.KernelXattnIdeal.Gen.frame m ρ,
    fun m ρ _ => (θ_run Cert.ReferenceXattnIdeal.defs _ _).mono
      (fun r h => ⟨fun c => (h c).2, sem_eq_zero_of_no_sems (by decide) r.2⟩) (Cert.ReferenceXattnIdeal.Value.run m ρ),
    trivial, Swiglu.algebraic,
    trivial, Gate.algebraic,
    trivial, FfnOut.algebraic,
    trivial, Qkv.algebraic,
    trivial, Z.algebraic,
    trivial, Xbc.algebraic,
    trivial, Dt.algebraic,
    trivial, Merge.algebraic,
    trivial, Out.algebraic,
    trivial, XaQ.algebraic,
    trivial, XaKv.algebraic,
    trivial, NormIn.algebraic,
    trivial, NormMem.algebraic,
    trivial, Norm.algebraic,
    trivial, Xattn.algebraic⟩

end Cert.Proof

end
